-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "scale" .bf16 0x3DB5#16 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v40) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x512x1024 : Shape := ⟨3, ![1, 512, 1024]⟩
abbrev S1024x1024 : Shape := ⟨2, ![1024, 1024]⟩
abbrev S_ : Shape := ⟨0, ![]⟩

class Facts : Prop where
  bcast_S_S1x512x1024 : S_.BroadcastsInDim S1x512x1024 (![] : Fin 0 → Fin S1x512x1024.rank)
  bcast_S_S1024x1024 : S_.BroadcastsInDim S1024x1024 (![] : Fin 0 → Fin S1024x1024.rank)

variable [Facts]

def fn {F : FTy → Type} [FloatOps F] (main_arg0 : FVec F S1x512x1024 .bf16) (main_arg1 : FVec F S1024x1024 .bf16) (main_arg2 : FVec F S1024x1024 .bf16) (main_arg3 : FVec F S1024x1024 .bf16) (main_arg4 : FVec F S1024x1024 .bf16) : IVec S1x512x1024 1 × IVec S1024x1024 1 × IVec S1024x1024 1 :=
  let main_v0 : FVec F S1x512x1024 .bf16 := Host.absf main_arg0
  let main_cst : FVec F S_ .bf16 := constant S_ .bf16 0x7F80#16
  let main_v1 : FVec F S1x512x1024 .bf16 := broadcastInDim S1x512x1024 ![] bcast_S_S1x512x1024 main_cst
  let main_v2 : IVec S1x512x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S1024x1024 .bf16 := Host.absf main_arg2
  let main_cst_1 : FVec F S_ .bf16 := constant S_ .bf16 0x7F80#16
  let main_v7 : FVec F S1024x1024 .bf16 := broadcastInDim S1024x1024 ![] bcast_S_S1024x1024 main_cst_1
  let main_v8 : IVec S1024x1024 1 := cmpf .olt main_v6 main_v7
  (main_v2, main_v5, main_v8)
-- ==== Pre_finite_ReferenceIdeal.lean ====
abbrev S1x512x1024 : Shape := ⟨3, ![1, 512, 1024]⟩
abbrev S1024x4096 : Shape := ⟨2, ![1024, 4096]⟩
abbrev S4096x1024 : Shape := ⟨2, ![4096, 1024]⟩
abbrev S_ : Shape := ⟨0, ![]⟩

class Facts : Prop where
  bcast_S_S1x512x1024 : S_.BroadcastsInDim S1x512x1024 (![] : Fin 0 → Fin S1x512x1024.rank)
  bcast_S_S1024x4096 : S_.BroadcastsInDim S1024x4096 (![] : Fin 0 → Fin S1024x4096.rank)

variable [Facts]

def fn {F : FTy → Type} [FloatOps F] (main_arg0 : FVec F S1x512x1024 .bf16) (main_arg1 : FVec F S1024x4096 .bf16) (main_arg2 : FVec F S1024x4096 .bf16) (main_arg3 : FVec F S1024x4096 .bf16) (main_arg4 : FVec F S4096x1024 .bf16) : IVec S1x512x1024 1 × IVec S1024x4096 1 × IVec S1024x4096 1 :=
  let main_v0 : FVec F S1x512x1024 .bf16 := Host.absf main_arg0
  let main_cst : FVec F S_ .bf16 := constant S_ .bf16 0x7F80#16
  let main_v1 : FVec F S1x512x1024 .bf16 := broadcastInDim S1x512x1024 ![] bcast_S_S1x512x1024 main_cst
  let main_v2 : IVec S1x512x1024 1 := cmpf .olt main_v0 main_v1
  let main_v3 : FVec F S1024x4096 .bf16 := Host.absf main_arg1
  let main_cst_0 : FVec F S_ .bf16 := constant S_ .bf16 0x7F80#16
  let main_v4 : FVec F S1024x4096 .bf16 := broadcastInDim S1024x4096 ![] bcast_S_S1024x4096 main_cst_0
  let main_v5 : IVec S1024x4096 1 := cmpf .olt main_v3 main_v4
  let main_v6 : FVec F S1024x4096 .bf16 := Host.absf main_arg2
  let main_cst_1 : FVec F S_ .bf16 := constant S_ .bf16 0x7F80#16
  let main_v7 : FVec F S1024x4096 .bf16 := broadcastInDim S1024x4096 ![] bcast_S_S1024x4096 main_cst_1
  let main_v8 : IVec S1024x4096 1 := cmpf .olt main_v6 main_v7
  (main_v2, main_v5, main_v8)
-- ==== Kernel.lean ====
abbrev S1x512x1024 : Shape := ⟨3, ![1, 512, 1024]⟩
abbrev S1024x1024 : Shape := ⟨2, ![1024, 1024]⟩
abbrev S512x1024 : Shape := ⟨2, ![512, 1024]⟩
abbrev S4x2x2x128x512 : Shape := ⟨5, ![4, 2, 2, 128, 512]⟩
abbrev S4x2x2 : Shape := ⟨3, ![4, 2, 2]⟩
abbrev S_ : Shape := ⟨0, ![]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S128x1024 : Shape := ⟨2, ![128, 1024]⟩
abbrev S128x512 : Shape := ⟨2, ![128, 512]⟩
abbrev S1x1x1x128x512 : Shape := ⟨5, ![1, 1, 1, 128, 512]⟩
abbrev S1x1x1 : Shape := ⟨3, ![1, 1, 1]⟩

abbrev nBuf : Space → Nat
  | .hbm => 8
  | .vmem => 8
  | .smem => 0
  | _ => 0

abbrev bufTy : (tb : Table) → Fin (tcTables nBuf tb) → BufTy
  | .hbm, ⟨0, _⟩ => ⟨S1x512x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S512x1024, .bf16⟩
  | .hbm, ⟨6, _⟩ => ⟨S512x1024, .f32⟩
  | .hbm, ⟨7, _⟩ => ⟨S1x512x1024, .f32⟩
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S4x2x2x128x512, .bf16⟩
  | .local _ .vmem, ⟨7, _⟩ => ⟨S4x2x2x128x512, .bf16⟩
  | _, _ => ⟨S1x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_60 : BitVec 32 := 1#32
  let v132 : BitVec 32 := Scalar.muli v3 c1_i32_60
  let v133 : BitVec 32 := Scalar.addi c0_i32_61 v132
  v133.toNat
def k0_dev4 (d0 : Dev nD) : Nat :=
  let c0_i32_83 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_82 : BitVec 32 := 1#32
  let v146 : BitVec 32 := Scalar.muli v4 c1_i32_82
  let v147 : BitVec 32 := Scalar.addi c0_i32_83 v146
  v147.toNat
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_106 : BitVec 32 := 1#32
  let v167 : BitVec 32 := Scalar.muli v3 c1_i32_106
  let v168 : BitVec 32 := Scalar.addi c0_i32_107 v167
  v168.toNat
def k0_dev6 (d0 : Dev nD) : Nat :=
  let c0_i32_130 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_129 : BitVec 32 := 1#32
  let v181 : BitVec 32 := Scalar.muli v4 c1_i32_129
  let v182 : BitVec 32 := Scalar.addi c0_i32_130 v181
  v182.toNat
def k0_dev7 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_152 : BitVec 32 := 1#32
  let v202 : BitVec 32 := Scalar.muli v3 c1_i32_152
  let v203 : BitVec 32 := Scalar.addi c0_i32_153 v202
  v203.toNat
def k0_dev8 (d0 : Dev nD) : Nat :=
  let c0_i32_176 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_175 : BitVec 32 := 1#32
  let v216 : BitVec 32 := Scalar.muli v4 c1_i32_175
  let v217 : BitVec 32 := Scalar.addi c0_i32_176 v216
  v217.toNat
def k0_dev9 (d0 : Dev nD) : Nat :=
  let c0_i32_222 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_221 : BitVec 32 := 1#32
  let v246 : BitVec 32 := Scalar.muli v4 c1_i32_221
  let v247 : BitVec 32 := Scalar.addi c0_i32_222 v246
  v247.toNat
def k0_dev10 (d0 : Dev nD) : Nat :=
  let c0_i32_268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_267 : BitVec 32 := 1#32
  let v272 : BitVec 32 := Scalar.muli v3 c1_i32_267
  let v273 : BitVec 32 := Scalar.addi c0_i32_268 v272
  v273.toNat
def k0_dev11 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_290 : BitVec 32 := 1#32
  let v289 : BitVec 32 := Scalar.muli v3 c1_i32_290
  let v290 : BitVec 32 := Scalar.addi c0_i32_291 v289
  v290.toNat
def k0_dev12 (d0 : Dev nD) : Nat :=
  let c0_i32_314 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_313 : BitVec 32 := 1#32
  let v303 : BitVec 32 := Scalar.muli v4 c1_i32_313
  let v304 : BitVec 32 := Scalar.addi c0_i32_314 v303
  v304.toNat
def k0_dev13 (d0 : Dev nD) : Nat :=
  let c0_i32_360 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_359 : BitVec 32 := 1#32
  let v333 : BitVec 32 := Scalar.muli v4 c1_i32_359
  let v334 : BitVec 32 := Scalar.addi c0_i32_360 v333
  v334.toNat
def k0_dev14 (d0 : Dev nD) : Nat :=
  let c0_i32_406 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_405 : BitVec 32 := 1#32
  let v359 : BitVec 32 := Scalar.muli v3 c1_i32_405
  let v360 : BitVec 32 := Scalar.addi c0_i32_406 v359
  v360.toNat
def k0_dev15 (d0 : Dev nD) : Nat :=
  let c0_i32_452 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_451 : BitVec 32 := 1#32
  let v385 : BitVec 32 := Scalar.muli v4 c1_i32_451
  let v386 : BitVec 32 := Scalar.addi c0_i32_452 v385
  v386.toNat
def k0_dev16 (d0 : Dev nD) : Nat :=
  let c0_i32_498 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_497 : BitVec 32 := 1#32
  let v411 : BitVec 32 := Scalar.muli v3 c1_i32_497
  let v412 : BitVec 32 := Scalar.addi c0_i32_498 v411
  v412.toNat
def k0_dev17 (d0 : Dev nD) : Nat :=
  let c0_i32_544 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_543 : BitVec 32 := 1#32
  let v437 : BitVec 32 := Scalar.muli v4 c1_i32_543
  let v438 : BitVec 32 := Scalar.addi c0_i32_544 v437
  v438.toNat
def k0_dev18 (d0 : Dev nD) : Nat :=
  let c0_i32_590 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_589 : BitVec 32 := 1#32
  let v463 : BitVec 32 := Scalar.muli v3 c1_i32_589
  let v464 : BitVec 32 := Scalar.addi c0_i32_590 v463
  v464.toNat
abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S1x512x1024 : Shape := ⟨3, ![1, 512, 1024]⟩
abbrev S1024x4096 : Shape := ⟨2, ![1024, 4096]⟩
abbrev S4096x1024 : Shape := ⟨2, ![4096, 1024]⟩
abbrev S1x512x4096 : Shape := ⟨3, ![1, 512, 4096]⟩
abbrev S1x512x32x128 : Shape := ⟨4, ![1, 512, 32, 128]⟩
abbrev S_ : Shape := ⟨0, ![]⟩
abbrev S1x32x512x1 : Shape := ⟨4, ![1, 32, 512, 1]⟩
abbrev S1x32x512x512 : Shape := ⟨4, ![1, 32, 512, 512]⟩
abbrev S1x32x512 : Shape := ⟨3, ![1, 32, 512]⟩
abbrev S1x512x32x1 : Shape := ⟨4, ![1, 512, 32, 1]⟩
abbrev S1x32x128x512 : Shape := ⟨4, ![1, 32, 128, 512]⟩

abbrev nBuf : Space → Nat
  | .hbm => 52
  | .vmem => 0
  | .smem => 0
  | _ => 0

abbrev bufTy : (tb : Table) → Fin (tcTables nBuf tb) → BufTy
  | .hbm, ⟨0, _⟩ => ⟨S1x512x1024, .bf16⟩
  | .hbm, ⟨1, _⟩ => ⟨S1024x4096, .bf16⟩
  | .hbm, ⟨2, _⟩ => ⟨S1024x4096, .bf16⟩
  | .hbm, ⟨3, _⟩ => ⟨S1024x4096, .bf16⟩
  | .hbm, ⟨4, _⟩ => ⟨S4096x1024, .bf16⟩
  | .hbm, ⟨5, _⟩ => ⟨S1x512x1024, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S4096x1024, .f32⟩
  | .hbm, ⟨10, _⟩ => ⟨S1x512x4096, .f32⟩
  | .hbm, ⟨11, _⟩ => ⟨S1x512x32x128, .f32⟩
  | .hbm, ⟨12, _⟩ => ⟨S1x512x4096, .f32⟩
  | .hbm, ⟨13, _⟩ => ⟨S1x512x32x128, .f32⟩
  | .hbm, ⟨14, _⟩ => ⟨S1x512x4096, .f32⟩
  | .hbm, ⟨15, _⟩ => ⟨S1x512x32x128, .f32⟩
  | .hbm, ⟨16, _⟩ => ⟨S_, .f32⟩
  | .hbm, ⟨17, _⟩ => ⟨S1x512x32x128, .f32⟩
  | .hbm, ⟨18, _⟩ => ⟨S_, .f32⟩
  | .hbm, ⟨19, _⟩ => ⟨S1x32x512x1, .f32⟩
  | .hbm, ⟨20, _⟩ => ⟨S_, .f32⟩
  | .hbm, ⟨21, _⟩ => ⟨S1x32x512x1, .f32⟩
  | .hbm, ⟨22, _⟩ => ⟨S1x32x512x512, .f32⟩
  | .hbm, ⟨23, _⟩ => ⟨S_, .f32⟩
  | .hbm, ⟨24, _⟩ => ⟨S_, .f32⟩
  | .hbm, ⟨25, _⟩ => ⟨S1x32x512x512, .f32⟩
  | .hbm, ⟨26, _⟩ => ⟨S1x32x512x512, .f32⟩
  | .hbm, ⟨27, _⟩ => ⟨S_, .f32⟩
  | .hbm, ⟨28, _⟩ => ⟨S1x32x512, .f32⟩
  | .hbm, ⟨29, _⟩ => ⟨S1x32x512x1, .f32⟩
  | .hbm, ⟨30, _⟩ => ⟨S1x32x512x1, .f32⟩
  | .hbm, ⟨31, _⟩ => ⟨S1x32x512x1, .f32⟩
  | .hbm, ⟨32, _⟩ => ⟨S1x32x512x1, .f32⟩
  | .hbm, ⟨33, _⟩ => ⟨S1x32x512x512, .f32⟩
  | .hbm, ⟨34, _⟩ => ⟨S1x32x512x512, .f32⟩
  | .hbm, ⟨35, _⟩ => ⟨S1x32x512x512, .f32⟩
  | .hbm, ⟨36, _⟩ => ⟨S1x32x512x1, .f32⟩
  | .hbm, ⟨37, _⟩ => ⟨S_, .f32⟩
  | .hbm, ⟨38, _⟩ => ⟨S1x32x512, .f32⟩
  | .hbm, ⟨39, _⟩ => ⟨S1x32x512x1, .f32⟩
  | .hbm, ⟨40, _⟩ => ⟨S1x32x512x1, .f32⟩
  | .hbm, ⟨41, _⟩ => ⟨S1x512x32x1, .f32⟩
  | .hbm, ⟨42, _⟩ => ⟨S1x512x32x128, .f32⟩
  | .hbm, ⟨43, _⟩ => ⟨S1x512x32x128, .f32⟩
  | .hbm, ⟨44, _⟩ => ⟨S1x32x128x512, .f32⟩
  | .hbm, ⟨45, _⟩ => ⟨S1x512x32x128, .f32⟩
  | .hbm, ⟨46, _⟩ => ⟨S1x512x32x128, .f32⟩
  | .hbm, ⟨47, _⟩ => ⟨S1x512x32x1, .f32⟩
  | .hbm, ⟨48, _⟩ => ⟨S1x512x32x128, .f32⟩
  | .hbm, ⟨49, _⟩ => ⟨S1x512x32x128, .f32⟩
  | .hbm, ⟨50, _⟩ => ⟨S1x512x4096, .f32⟩
  | .hbm, ⟨51, _⟩ => ⟨S1x512x1024, .f32⟩
  | _, _ => ⟨S1x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]

def κ : String → Option EReal := fun
  | "scale" => some (((Real.sqrt 128)⁻¹ : ℝ) : EReal)
  | _ => none
-- ==== Proof.Proto.lean ====
/-
  The exchange protocol of the kernel, as a schedule of rounds.

  Each of the four devices exchanges 16 slots with two partners: slot (d, k, s) is quarter `k` of the rows at
  stage `s`; `d` says which of the two partners it goes to, and with `s` which half of the columns it is. A slot
  is copied from the sender's send buffer into the same slot of the partner's receive buffer. The barrier at
  the start hands each device its partners' receive slots; a copy hands the partner its slot back, filled, and the
  sender its own send slot back.
-/
module

public import proofs.«01_k».proof.Proof.Gen.KernelIdeal
public import proofs.«01_k».proof.Proof.Gen.KernelIdeal.Frame
public import Idealize.ShloMosaic.Lib.Pipeline.RegionTalk
public import Idealize.ShloMosaic.Lib.Rounds

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F] [Named F]

/-- The resource algebra: the pipeline library's rounds and the exchange's own, whose duties are told apart by a
    Boolean. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## Devices and slots -/

/-- The two devices a device talks to: `payer false c` differs from `c` in the low bit, `payer true c` in both. -/
def payer (d : Bool) (c : Dev nD) : Dev nD := bif d then (![3, 2, 1, 0] : Fin 4 → Fin 4) c else (![1, 0, 3, 2] : Fin 4 → Fin 4) c

theorem payer_payer (d : Bool) (c : Dev nD) : payer d (payer d c) = c := by revert d c; decide
/-- Being each other's partner, as a permutation of the devices. -/
def swap (d : Bool) : Dev nD ≃ Dev nD := ⟨payer d, payer d, payer_payer d, payer_payer d⟩

/-- A slot: which partner, which quarter of the rows, which stage. -/
abbrev J : Type := Bool × Fin 4 × Fin 2

/-- The half of the columns a slot carries. -/
def half (j : J) : ℕ := bif j.1 then 1 - j.2.2.val else j.2.2.val

def slotOff (j : J) : Fin 5 → ℕ := ![j.2.1.val, j.2.2.val, half j, 0, 0]
theorem inbSlot (j : J) : ∀ a, slotOff j a + S1x1x1x128x512.size a ≤ S4x2x2x128x512.size a := by revert j; decide
abbrev slotRect (j : J) : Rect S4x2x2x128x512 :=
  Rect.unit (s := S4x2x2x128x512) (slotOff j) S1x1x1x128x512.size (inbSlot j)

abbrev sM : Memref sig .tc .vmem S4x2x2x128x512 .bf16 := Memref.whole cc0_scratch0
abbrev rM : Memref sig .tc .vmem S4x2x2x128x512 .bf16 := Memref.whole cc0_scratch1
abbrev slotM (b : Memref sig .tc .vmem S4x2x2x128x512 .bf16) (j : J) : Memref sig .tc .vmem S128x512 .bf16 :=
  (b.slice (slotRect j) (fun _ => rfl)).squeeze S128x512 squeezes_S1x1x1x128x512_S128x512

def semOff (j : J) : Fin 3 → ℕ := ![j.2.1.val, j.2.2.val, half j]
theorem inbSem (j : J) : ∀ a, semOff j a + S1x1x1.size a ≤ S4x2x2.size a := by revert j; decide
abbrev semOf (a : DmaSems sig S4x2x2) (j : J) : DmaSem sig :=
  ((a.slice (Rect.unit (s := S4x2x2) (semOff j) S1x1x1.size (inbSem j))).squeeze S_ squeezes_S1x1x1_S_).sem
abbrev sendS (j : J) : DmaSem sig := semOf cc0_scratch2 j
abbrev recvS (j : J) : DmaSem sig := semOf cc0_scratch3 j
abbrev barS : Sem sig := sig.barrier 0 rfl

/-- A slot's place in the semaphore arrays. -/
def slotNo (j : J) : ℕ := 4 * j.2.1.val + 2 * j.2.2.val + half j
/-- The slot at a place. -/
def slotIx (n : ℕ) : J := (decide (n / 2 % 2 ≠ n % 2), ⟨n / 4 % 4, Nat.mod_lt _ (by decide)⟩, ⟨n / 2 % 2, Nat.mod_lt _ (by decide)⟩)

theorem sendS_val (j : J) : (sendS j).val = 6 + slotNo j := by revert j; decide
theorem recvS_val (j : J) : (recvS j).val = 22 + slotNo j := by revert j; decide
theorem slotNo_lt (j : J) : slotNo j < 16 := by revert j; decide
theorem slotIx_slotNo (j : J) : slotIx (slotNo j) = j := by revert j; decide
theorem slotNo_inj : Function.Injective slotNo := fun j j' h => by rw [← slotIx_slotNo j, h, slotIx_slotNo]

abbrev barCell (c : Dev nD) : GSem nD τ sig := ((c : Thread nD τ), .reg barS)
abbrev sendCell (c : Dev nD) (j : J) : GSem nD τ sig := ((c : Thread nD τ), .dma (sendS j))
abbrev recvCell (c : Dev nD) (j : J) : GSem nD τ sig := ((c : Thread nD τ), .dma (recvS j))

/-- The units one copy of a slot credits. -/
abbrev N : ℕ := (slotM rM (false, 0, 0)).view.dmaCredit
theorem N_pos : 0 < N := View.dmaCredit_pos _ (by decide)

/-! ## What a slot holds -/

/-- A device's slot of a buffer, at contents of the buffer. -/
abbrev slotAt (b : Memref sig .tc .vmem S4x2x2x128x512 .bf16) (c : Dev nD) (j : J)
    (f : Buf (Elt F) ((b.access (slotRect j)).loc (c : Thread nD τ))) : sProp 𝕄 :=
  (b.access (slotRect j)).loc (c : Thread nD τ) ↦[(b.access (slotRect j)).set]{fullShare} f

/-- The slot at contents not chosen. -/
def slotAny (b : Memref sig .tc .vmem S4x2x2x128x512 .bf16) (c : Dev nD) (j : J) : sProp 𝕄 := iprop(∃ f, slotAt b c j f)

/-- The slot holding the vector `v`. -/
def slotHas (b : Memref sig .tc .vmem S4x2x2x128x512 .bf16) (c : Dev nD) (j : J) (v : Vec F S1x1x1x128x512 .bf16) : sProp 𝕄 :=
  iprop(∃ f, ⌜(b.access (slotRect j)).read (Elt F) f = v⌝ ∗ slotAt b c j f)

theorem slotHas_any (b : Memref sig .tc .vmem S4x2x2x128x512 .bf16) (c : Dev nD) (j : J) (v : Vec F S1x1x1x128x512 .bf16) :
    slotHas b c j v ⊢ (slotAny b c j : sProp 𝕄) := by
  unfold slotHas slotAny
  iintro ⟨%f, -, H⟩; iexists f; iexact H

/-- Reading a rectangle after its reshaped view has been overwritten by what another reshaped view reads. -/
theorem read_write_reshape {κ : Kind} {sp sp' : Space} {s s' : Shape} {e : EltTy} (v : View sig κ sp s e) (v' : View sig κ sp' s e)
    (h : s'.numel = s.numel) (fd : v'.ty.Contents (Elt F)) (fs : v.ty.Contents (Elt F)) :
    v'.read (Elt F) ((v'.reshape s' h).write (Elt F) fd ((v.reshape s' h).read (Elt F) fs) Finset.univ) = v.read (Elt F) fs := by
  funext x
  obtain ⟨y, rfl⟩ := (Shape.reshapeEquiv h).surjective x
  exact congrFun (View.read_write_univ (v := v'.reshape s' h) fd ((v.reshape s' h).read (Elt F) fs)) y

/-! ## The schedule -/

section Sched

-- What every device's send slots hold when they are sent.
variable (X : Dev nD → J → Vec F S1x1x1x128x512 .bf16)

/-- Partner `d` pays device `c`'s barrier with its receive slots that `c` writes, and that their cells are open. -/
def barPay (c : Dev nD) (d : Bool) : sProp 𝕄 :=
  bigSep Finset.univ fun x : Fin 4 × Fin 2 => iprop(slotAny rM (payer d c) (d, x) ∗ reached ER (recvCell (payer d c) (d, x)) 0)
/-- The copy of slot `j` into device `c` pays the slot back, filled with the partner's. -/
def recvPay (c : Dev nD) (j : J) : sProp 𝕄 := slotHas rM c j (X (payer j.1 c) j)

/-- One round on every cell: two duties on a barrier cell, one on every send and receive cell. -/
def rd : Rounds.Schedule (GSem nD τ sig) Bool 𝕄 where
  duties g r := if r = 0 ∧ g.1.2 = .tc then (match g.2 with | .reg _ => Finset.univ | .dma q => if 6 ≤ q.val then {false} else ∅) else ∅
  unitless _ := False
  amount g _ _ := match g.2 with | .reg _ => 1 | .dma _ => N
  payload g _ d := match g.2 with
    | .reg _ => barPay g.1.1 d
    | .dma q => if 22 ≤ q.val then recvPay X g.1.1 (slotIx (q.val - 22)) else slotAny sM g.1.1 (slotIx (q.val - 6))
  amount_pos g _ _ _ := by
    cases h : g.2 with
    | reg _ => exact Nat.one_pos
    | dma _ => exact N_pos

instance rd_payload_storable (g : GSem nD τ sig) (r : ℕ) (d : Bool) :
    BI.Storable (upEmb : UEmb _ 𝕄) ((rd (F := F) X).payload g r d) := by
  show BI.Storable upEmb (match g.2 with
    | .reg _ => barPay g.1.1 d
    | .dma q => if 22 ≤ q.val then recvPay X g.1.1 (slotIx (q.val - 22)) else slotAny sM g.1.1 (slotIx (q.val - 6)))
  unfold barPay recvPay slotAny slotHas
  (repeat' split) <;> infer_instance

variable (c : Dev nD) (j : J)

theorem duties_bar : (rd X).duties (barCell c) 0 = Finset.univ := by dsimp only [rd]; exact if_pos ⟨rfl, rfl⟩
theorem duties_send : (rd X).duties (sendCell c j) 0 = {false} := by
  dsimp only [rd]; rw [if_pos ⟨rfl, rfl⟩, if_pos (by rw [sendS_val]; omega)]
theorem duties_recv : (rd X).duties (recvCell c j) 0 = {false} := by
  dsimp only [rd]; rw [if_pos ⟨rfl, rfl⟩, if_pos (by rw [recvS_val]; omega)]
theorem duties_later (g : GSem nD τ sig) : ∀ r, 1 ≤ r → (rd X).duties g r = ∅ :=
  fun r hr => by dsimp only [rd]; rw [if_neg (fun h => by omega)]

theorem amount_bar (d : Bool) : (rd X).amount (barCell c) 0 d = 1 := rfl
theorem amount_send (d : Bool) : (rd X).amount (sendCell c j) 0 d = N := rfl
theorem amount_recv (d : Bool) : (rd X).amount (recvCell c j) 0 d = N := rfl

theorem expect_bar : (rd X).expect (barCell c) 0 = 2 := by
  unfold Schedule.expect Schedule.amountOf; rw [duties_bar]; rfl
theorem expect_send : (rd X).expect (sendCell c j) 0 = N := by
  unfold Schedule.expect Schedule.amountOf; rw [duties_send, Finset.sum_singleton, amount_send]
theorem expect_recv : (rd X).expect (recvCell c j) 0 = N := by
  unfold Schedule.expect Schedule.amountOf; rw [duties_recv, Finset.sum_singleton, amount_recv]

theorem payload_bar (d : Bool) : (rd X).payload (barCell c) 0 d = barPay c d := rfl
theorem payload_send (d : Bool) : (rd X).payload (sendCell c j) 0 d = slotAny sM c j := by
  have h := slotNo_lt j
  show (if 22 ≤ (sendS j).val then _ else _) = _
  rw [sendS_val, if_neg (by omega), Nat.add_sub_cancel_left, slotIx_slotNo]
theorem payload_recv (d : Bool) : (rd X).payload (recvCell c j) 0 d = recvPay X c j := by
  show (if 22 ≤ (recvS j).val then _ else _) = _
  rw [recvS_val, if_pos (by omega), Nat.add_sub_cancel_left, slotIx_slotNo]

/-- Both partners' payments: every receive slot the device writes. -/
theorem rest_bar : bigSep ((rd X).duties (barCell c) 0 \ ∅) (fun d => (rd X).payload (barCell c) 0 d)
    = bigSep Finset.univ fun j : J => iprop(slotAny rM (payer j.1 c) j ∗ reached ER (recvCell (payer j.1 c) j) 0) := by
  rw [Finset.sdiff_empty, duties_bar, bigSep_univ_prod]; rfl
theorem rest_send : bigSep ((rd X).duties (sendCell c j) 0 \ ∅) (fun d => (rd X).payload (sendCell c j) 0 d) = slotAny sM c j := by
  rw [Finset.sdiff_empty, duties_send, bigSep_singleton, payload_send]
theorem rest_recv : bigSep ((rd X).duties (recvCell c j) 0 \ ∅) (fun d => (rd X).payload (recvCell c j) 0 d) = recvPay X c j := by
  rw [Finset.sdiff_empty, duties_recv, bigSep_singleton, payload_recv]

end Sched

/-! ## The order of the events of one device, and what it owes before each -/

/-- The events of a device's run after the barrier: a send slot is filled, sent, read back; a receive slot is
    waited for; a block of the result is stored. -/
inductive Ev : Type
  | fill (j : J) | send (j : J) | recv (j : J) | back (j : J) | out (i : Fin 4 × Fin 2)
deriving DecidableEq

/-- Filling a slot and sending it. -/
def put (j : J) : List Ev := [.fill j, .send j]
/-- Waiting for the second stage of the two halves of a quarter, each added into the result. -/
def fin (k : Fin 4) : List Ev := [.recv (true, k, 1), .out (k, 0), .recv (false, k, 1), .out (k, 1)]
/-- The first stage of a quarter received, the second one sent. -/
def mid (k : Fin 4) : List Ev :=
  .recv (false, k, 0) :: put (true, k, 1) ++ .recv (true, k, 0) :: put (false, k, 1)
/-- The first stage of a quarter sent. -/
def start (k : Fin 4) : List Ev := put (false, k, 0) ++ put (true, k, 0)
def backs (s : Fin 2) (k : Fin 4) : List Ev := bif s = 0 then [.back (false, k, s), .back (true, k, s)] else [.back (true, k, s), .back (false, k, s)]

/-- All of them, in the kernel's order. -/
def T : List Ev :=
  start 0 ++ start 1 ++ start 2 ++ mid 0 ++ start 3 ++ mid 1 ++ mid 2 ++ mid 3 ++ fin 0 ++ fin 1 ++ fin 2 ++ fin 3
    ++ backs 0 0 ++ backs 0 1 ++ backs 0 2 ++ backs 0 3 ++ backs 1 0 ++ backs 1 1 ++ backs 1 2 ++ backs 1 3

/-- What an event takes off what its device owes: a copy the partner's receive credit. -/
def due (c : Dev nD) : Ev → CellTallies nD τ sig Unit
  | .send j => tallyAt (recvCell (payer j.1 c) j) () N
  | _ => 0

/-- What device `c` owes before its `n`-th event. -/
def O (c : Dev nD) (n : ℕ) : CellTallies nD τ sig Unit := ((T.drop n).map (due c)).sum

theorem drop_of_get {n : ℕ} {e : Ev} (h : T[n]? = some e) : T.drop n = e :: T.drop (n + 1) := by
  obtain ⟨hn, rfl⟩ := List.getElem?_eq_some_iff.mp h
  exact List.drop_eq_getElem_cons hn
theorem take_of_get {n : ℕ} {e : Ev} (h : T[n]? = some e) : T.take (n + 1) = T.take n ++ [e] := by
  rw [List.take_add_one, h]; rfl

theorem O_step (c : Dev nD) {n : ℕ} {e : Ev} (h : T[n]? = some e) : O c n = O c (n + 1) + due c e := by
  unfold O; rw [drop_of_get h, List.map_cons, List.sum_cons, add_comm]

/-- At launch: the two barrier units besides. -/
def O₀ (c : Dev nD) : CellTallies nD τ sig Unit := O c 0 + tallyAt (barCell (payer true c)) () 1 + tallyAt (barCell (payer false c)) () 1

def L (g : GSem nD τ sig) : Finset Unit := if g.1.2 = .tc then {()} else ∅
/-- A receive slot's level: first stage before second, by quarter within a stage. -/
def lvSlot (j : J) : ℕ := 2 + 8 * j.2.2.val + 2 * j.2.1.val + half j
def lv (g : GSem nD τ sig) (_ : Unit) : ℕ := match g.2 with
  | .reg _ => 1
  | .dma q => if 22 ≤ q.val then lvSlot (slotIx (q.val - 22)) else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_send (c : Dev nD) (j : J) : lv (sendCell c j) () = 0 := by
  have h := slotNo_lt j
  show (if 22 ≤ (sendS j).val then _ else _) = _
  rw [sendS_val, if_neg (by omega)]
theorem lv_recv (c : Dev nD) (j : J) : lv (recvCell c j) () = lvSlot j := by
  show (if 22 ≤ (recvS j).val then _ else _) = _
  rw [recvS_val, if_pos (by omega), Nat.add_sub_cancel_left, slotIx_slotNo]

theorem tallyAt_pos {g g' : GSem nD τ sig} {n : ℕ} {u : Unit} (h : 0 < (tallyAt g () n : CellTallies nD τ sig Unit) g' u) : g' = g := by
  rw [tallyAt_apply] at h
  split at h
  · next hg => exact hg.1
  · exact absurd h (Nat.lt_irrefl 0)

/-- What is owed before the `n`-th event is owed to the receive cell of a later copy. -/
theorem O_pos {c : Dev nD} {n : ℕ} {g : GSem nD τ sig} {u : Unit} (h : 0 < O c n g u) :
    ∃ j, Ev.send j ∈ T.drop n ∧ g = recvCell (payer j.1 c) j := by
  unfold O at h
  generalize T.drop n = l at h ⊢
  induction l with
  | nil => exact absurd h (Nat.lt_irrefl 0)
  | cons e l ih =>
    rw [List.map_cons, List.sum_cons, Pi.add_apply, Finsupp.add_apply] at h
    rcases Nat.add_pos_iff_pos_or_pos.mp h with h | h
    · cases e with
      | send j => exact ⟨j, List.mem_cons_self .., tallyAt_pos h⟩
      | _ => exact absurd h (Nat.lt_irrefl 0)
    · obtain ⟨j, hj, hg⟩ := ih h
      exact ⟨j, List.mem_cons_of_mem _ hj, hg⟩

theorem O₀_pos {c : Dev nD} {g : GSem nD τ sig} {u : Unit} (h : 0 < O₀ c g u) :
    (∃ j, g = recvCell (payer j.1 c) j) ∨ ∃ d, g = barCell (payer d c) := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨j, -, hg⟩ := O_pos h; exact .inl ⟨j, hg⟩
    · exact .inr ⟨true, tallyAt_pos h⟩
  · exact .inr ⟨false, tallyAt_pos h⟩

/-- A device may wait on a cell below every receive cell it still owes. -/
theorem mayWait (c : Dev nD) (sm : SemLoc sig) (n : ℕ)
    (h : ∀ e ∈ T.drop n, ∀ j, e = .send j → lv ((c : Thread nD τ), sm) () < lvSlot j) :
    (levAts L lv : sProp 𝕄) ⊢ MayWait (c : Thread nD τ) sm () (O c n) :=
  MayOwe.of_cut (L := L) (lev := lv) (lv ((c : Thread nD τ), sm) ())
    (fun p hp => by rw [Finset.mem_singleton.mp hp, L_tc]; exact Finset.mem_singleton_self _)
    (fun g u hg => by
      obtain ⟨j, -, rfl⟩ := O_pos hg
      rw [L_tc]; exact Finset.mem_singleton_self _)
    (fun p hp => by rw [Finset.mem_singleton.mp hp])
    (fun g u hg => by
      obtain ⟨j, hj, rfl⟩ := O_pos hg
      rw [lv_recv]; exact h _ hj j rfl)

end Cert.KernelIdeal.Talk

end
-- ==== Proof.Steps.lean ====
/-
  The state of a device between two events of the exchange, and one rule per kind of event.

  `St n` is everything the body holds before event `n` of the order `T`: each slot's send side and receive side at
  the phase that the earlier events leave it in, what is still owed, the result buffer with the blocks stored so
  far, and an untouched remainder `R`.
-/
module

public import proofs.«01_k».proof.Proof.Proto

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F] [Named F]

local notation "𝕄" => MT nD τ sig Unit (Elt F) ℕ UU ℕ

abbrev 𝒱₀ : Variants := Variants.none

/-- A program running on device `c`'s TensorCore, to end in `Q`. -/
abbrev Run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Phases -/

def sendSide (j : J) : Ev → Bool
  | .fill i | .send i | .back i => decide (i = j)
  | _ => false
def recvSide (j : J) : Ev → Bool
  | .recv i => decide (i = j)
  | _ => false

/-- How many of the first `n` events concern slot `j`'s send side: fresh, filled, in flight, back. -/
def sp (n : ℕ) (j : J) : ℕ := (T.take n).countP (sendSide j)
/-- How many concern its receive side: waiting, arrived. -/
def rp (n : ℕ) (j : J) : ℕ := (T.take n).countP (recvSide j)

theorem sp_step {n : ℕ} {e : Ev} (h : T[n]? = some e) (j : J) : sp (n + 1) j = sp n j + if sendSide j e then 1 else 0 := by
  unfold sp; rw [take_of_get h, List.countP_append, List.countP_singleton]
theorem rp_step {n : ℕ} {e : Ev} (h : T[n]? = some e) (j : J) : rp (n + 1) j = rp n j + if recvSide j e then 1 else 0 := by
  unfold rp; rw [take_of_get h, List.countP_append, List.countP_singleton]

/-! ## The result buffer -/

abbrev oM : Memref sig .tc .vmem S512x1024 .f32 := Memref.whole cc0_stg5_0
def outOff (i : Fin 4 × Fin 2) : Fin 2 → ℕ := ![128 * i.1.val, 512 * i.2.val]
theorem inbOut (i : Fin 4 × Fin 2) : ∀ a, outOff i a + S128x512.size a ≤ S512x1024.size a := by revert i; decide
abbrev outRect (i : Fin 4 × Fin 2) : Rect S512x1024 := Rect.unit (s := S512x1024) (outOff i) S128x512.size (inbOut i)

section State

/-- What every device's send slots hold when sent, and the blocks of its result. -/
abbrev Sent (F : FTy → Type) : Type := Dev nD → J → Vec F S1x1x1x128x512 .bf16
abbrev Blocks (F : FTy → Type) : Type := Fin 4 × Fin 2 → Vec F S128x512 .f32

abbrev OutBuf (F : FTy → Type) : Type := (oM : Memref sig .tc .vmem S512x1024 .f32).view.ty.Contents (Elt F)

variable (X : Sent F) (Y : Blocks F) (K : GSem nD τ sig → ℕ) (c : Dev nD) (g₀ : OutBuf F) (R : sProp (MT nD τ sig Unit (Elt F) ℕ UU ℕ))

/-- What an event does to the result buffer. -/
def outStep (g : OutBuf F) : Ev → OutBuf F
  | .out i => (oM.access (outRect i)).write (Elt F) g (Y i) Finset.univ
  | _ => g
def outAt (n : ℕ) : OutBuf F := (T.take n).foldl (outStep Y) g₀

theorem outAt_step {n : ℕ} {e : Ev} (h : T[n]? = some e) : outAt Y g₀ (n + 1) = outStep Y (outAt Y g₀ n) e := by
  unfold outAt; rw [take_of_get h, List.foldl_append]; rfl

abbrev outPts (c : Dev nD) (g : OutBuf F) : sProp 𝕄 := oM.view.loc (c : Thread nD τ) ↦{fullShare} g

/-- What goes with a send slot until it is sent: the position and the token of its own cell, the token of the
    partner's receive cell, and the partner's slot. -/
def sendKit (j : J) : sProp 𝕄 :=
  iprop(atPos ER (sendCell c j) 0 ∅ 0 ∗ dutyTok ER (sendCell c j) 0 false ∗ dutyTok ER (recvCell (payer j.1 c) j) 0 false
    ∗ reached ER (sendCell c j) 0 ∗ (slotAny rM (payer j.1 c) j ∗ reached ER (recvCell (payer j.1 c) j) 0))

def sendRes (j : J) : ℕ → sProp 𝕄
  | 0 => iprop(slotAny sM c j ∗ sendKit c j)
  | 1 => iprop(slotHas sM c j (X c j) ∗ sendKit c j)
  | 2 => iprop(atPos ER (sendCell c j) 0 ∅ 0 ∗ cred (tallyAt (sendCell c j) () N))
  | _ => iprop(slotAny sM c j ∗ atPos ER (sendCell c j) 1 ∅ 0)

def recvRes (j : J) : ℕ → sProp 𝕄
  | 0 => iprop(atPos ER (recvCell c j) 0 ∅ 0 ∗ cred (tallyAt (recvCell c j) () N))
  | _ => iprop(slotHas rM c j (X (payer j.1 c) j) ∗ atPos ER (recvCell c j) 1 ∅ 0)

theorem sendRes_0 (j : J) : sendRes X c j 0 = iprop(slotAny sM c j ∗ sendKit c j) := rfl
theorem sendRes_1 (j : J) : sendRes X c j 1 = iprop(slotHas sM c j (X c j) ∗ sendKit c j) := rfl
theorem sendRes_2 (j : J) : sendRes X c j 2 = iprop(atPos ER (sendCell c j) 0 ∅ 0 ∗ cred (tallyAt (sendCell c j) () N)) := rfl
theorem sendRes_3 (j : J) : sendRes X c j 3 = iprop(slotAny sM c j ∗ atPos ER (sendCell c j) 1 ∅ 0) := rfl
theorem recvRes_0 (j : J) : recvRes X c j 0 = iprop(atPos ER (recvCell c j) 0 ∅ 0 ∗ cred (tallyAt (recvCell c j) () N)) := rfl
theorem recvRes_1 (j : J) : recvRes X c j 1 = iprop(slotHas rM c j (X (payer j.1 c) j) ∗ atPos ER (recvCell c j) 1 ∅ 0) := rfl

/-- The cells' invariants and levels. -/
def recs : sProp 𝕄 :=
  iprop(levAts L lv ∗ (bigSep Finset.univ fun c : Dev nD => cellInv ER (rd X) (K (barCell c)) (barCell c))
    ∗ (bigSep Finset.univ fun p : Dev nD × J => cellInv ER (rd X) (K (sendCell p.1 p.2)) (sendCell p.1 p.2))
    ∗ (bigSep Finset.univ fun p : Dev nD × J => cellInv ER (rd X) (K (recvCell p.1 p.2)) (recvCell p.1 p.2)))

instance recs_persistent : BI.Persistent (recs X K) := by unfold recs; infer_instance

theorem inv_of {I : Type} [Fintype I] [DecidableEq I] (Φ : I → sProp 𝕄) (i : I) : bigSep Finset.univ Φ ⊢ Φ i := bigSep_elim (Finset.mem_univ i)
theorem recs_lev : recs X K ⊢ levAts L lv := by unfold recs; iintro ⟨#H, -⟩; iexact H
theorem recs_bar (d : Dev nD) : recs X K ⊢ cellInv ER (rd X) (K (barCell d)) (barCell d) := by
  unfold recs; iintro ⟨-, #H, -⟩
  iapply (inv_of (fun c : Dev nD => cellInv ER (rd X) (K (barCell c)) (barCell c)) d); iexact H
theorem recs_send (d : Dev nD) (j : J) : recs X K ⊢ cellInv ER (rd X) (K (sendCell d j)) (sendCell d j) := by
  unfold recs; iintro ⟨-, -, #H, -⟩
  iapply (inv_of (fun p : Dev nD × J => cellInv ER (rd X) (K (sendCell p.1 p.2)) (sendCell p.1 p.2)) (d, j)); iexact H
theorem recs_recv (d : Dev nD) (j : J) : recs X K ⊢ cellInv ER (rd X) (K (recvCell d j)) (recvCell d j) := by
  unfold recs; iintro ⟨-, -, -, #H⟩
  iapply (inv_of (fun p : Dev nD × J => cellInv ER (rd X) (K (recvCell p.1 p.2)) (recvCell p.1 p.2)) (d, j)); iexact H

def owing (n : ℕ) : sProp 𝕄 := iprop(∃ W, owes (c : Thread nD τ) (O c n) W)

def sends (n : ℕ) : sProp 𝕄 := bigSep Finset.univ fun j : J => sendRes X c j (sp n j)
def recvs (n : ℕ) : sProp 𝕄 := bigSep Finset.univ fun j : J => recvRes X c j (rp n j)

/-- Everything before event `n`. -/
def St (n : ℕ) : sProp 𝕄 :=
  iprop(recs X K ∗ sends X c n ∗ recvs X c n ∗ owing c n ∗ outPts c (outAt Y g₀ n) ∗ R)

/-- One slot's send side taken out. -/
theorem sends_at (n : ℕ) (j : J) : sends X c n = iprop(sendRes X c j (sp n j) ∗ bigSep (Finset.univ.erase j) fun i => sendRes X c i (sp n i)) :=
  bigSep_univ_at _ j
theorem recvs_at (n : ℕ) (j : J) : recvs X c n = iprop(recvRes X c j (rp n j) ∗ bigSep (Finset.univ.erase j) fun i => recvRes X c i (rp n i)) :=
  bigSep_univ_at _ j

theorem sends_keep {n : ℕ} {e : Ev} (h : T[n]? = some e) (he : ∀ j, sendSide j e = false) : sends X c (n + 1) = sends X c n := by
  unfold sends; exact bigSep_congr fun j _ => by rw [sp_step h, he]; rfl
theorem recvs_keep {n : ℕ} {e : Ev} (h : T[n]? = some e) (he : ∀ j, recvSide j e = false) : recvs X c (n + 1) = recvs X c n := by
  unfold recvs; exact bigSep_congr fun j _ => by rw [rp_step h, he]; rfl
theorem sends_move {n : ℕ} {e : Ev} (h : T[n]? = some e) (j : J) (hj : ∀ i, sendSide i e = decide (j = i)) :
    sends X c (n + 1) = iprop(sendRes X c j (sp n j + 1) ∗ bigSep (Finset.univ.erase j) fun i => sendRes X c i (sp n i)) := by
  rw [sends_at X c (n + 1) j, sp_step h, hj, decide_eq_true rfl, if_pos rfl]
  congr 1
  exact bigSep_congr fun i hi => by
    rw [sp_step h, hj, decide_eq_false (fun h => Finset.ne_of_mem_erase hi h.symm)]; rfl
theorem recvs_move {n : ℕ} {e : Ev} (h : T[n]? = some e) (j : J) (hj : ∀ i, recvSide i e = decide (j = i)) :
    recvs X c (n + 1) = iprop(recvRes X c j (rp n j + 1) ∗ bigSep (Finset.univ.erase j) fun i => recvRes X c i (rp n i)) := by
  rw [recvs_at X c (n + 1) j, rp_step h, hj, decide_eq_true rfl, if_pos rfl]
  congr 1
  exact bigSep_congr fun i hi => by
    rw [rp_step h, hj, decide_eq_false (fun h => Finset.ne_of_mem_erase hi h.symm)]; rfl

theorem owing_keep {n : ℕ} {e : Ev} (h : T[n]? = some e) (he : due c e = 0) : (owing c n : sProp 𝕄) = owing c (n + 1) := by
  unfold owing; rw [O_step c h, he, add_zero]

end State

/-! ## The rules -/

section Rules

variable (X : Sent F) (Y : Blocks F) (K : GSem nD τ sig → ℕ) (c : Dev nD) (g₀ : OutBuf F) (R : sProp (MT nD τ sig Unit (Elt F) ℕ UU ℕ))

variable {α : Type} {Q : α → sProp (MT nD τ sig Unit (Elt F) ℕ UU ℕ)}

theorem step_ret {P : sProp 𝕄} (a : α) (h : P ⊢ Q a) : P ⊢ Run c (pure a) Q := by
  show P ⊢ Run c (.ret a) Q
  unfold Run; rw [wp_ret]
  iintro H; imodintro; iapply h; iexact H

/-- Reading a send slot whose contents do not matter. -/
theorem step_peek (n : ℕ) (j : J) (hs : sp n j = 0) {hl : sM.view.LoadsAt (slotRect j).toLoadRect}
    {k : Vec F S1x1x1x128x512 .bf16 → Prog (TpuEff nD τ sig (Elt F) Λ₀ .tc) α}
    (h : ∀ v, St X Y K c g₀ R n ⊢ Run c (k v) Q) :
    St X Y K c g₀ R n ⊢ Run c (Prog.lift (.load sM (slotRect j).toLoadRect hl) >>= k) Q := by
  unfold St at h ⊢
  rw [sends_at X c n j, hs, sendRes_0] at h ⊢
  iintro ⟨#Hr, ⟨⟨Hs, Hk⟩, Hss⟩, Hrest⟩
  unfold slotAny slotAt
  icases Hs with ⟨%f, Hs⟩
  iapply (wp_load_rect 𝒱₀ (c : Thread nD τ) none Set.univ (m := sM) (r := slotRect j) (Finset.Subset.refl _)) $$ Hs
  iintro Hs
  iapply (h _)
  isplitr; · iexact Hr
  isplitl [Hs Hk Hss]
  · isplitl [Hs Hk]
    · unfold slotAny
      isplitl [Hs]; · iexists f; iexact Hs
      iexact Hk
    iexact Hss
  iexact Hrest

/-- Filling a send slot. -/
theorem step_fill (n : ℕ) (j : J) (hT : T[n]? = some (.fill j)) (hs : sp n j = 0) {w : Vec F S1x1x1x128x512 .bf16}
    (hw : w = X c j) {hx : (sM.access (slotRect j)).Stores Finset.univ} {hm : Finset.univ = Finset.univ ∨ ∀ a, (slotRect j).stride a = 1}
    {k : PUnit → Prog (TpuEff nD τ sig (Elt F) Λ₀ .tc) α}
    (h : St X Y K c g₀ R (n + 1) ⊢ Run c (k ⟨⟩) Q) :
    St X Y K c g₀ R n ⊢ Run c (Prog.lift (.store sM (slotRect j) w Finset.univ hx hm) >>= k) Q := by
  subst hw
  unfold St at h ⊢
  rw [sends_move X c hT j (fun i => rfl), hs, sendRes_1, recvs_keep X c hT (fun _ => rfl), ← owing_keep c hT rfl, outAt_step Y g₀ hT] at h
  rw [sends_at X c n j, hs, sendRes_0]
  iintro ⟨#Hr, ⟨⟨Hs, Hk⟩, Hss⟩, Hrest⟩
  unfold slotAny slotAt
  icases Hs with ⟨%f, Hs⟩
  iapply (wp_store 𝒱₀ (c : Thread nD τ) none Set.univ (m := sM) (r := slotRect j) (View.setOn_subset_set _ _)) $$ Hs
  iintro Hs
  iapply h
  isplitr; · iexact Hr
  isplitl [Hs Hk Hss]
  · isplitl [Hs Hk]
    · unfold slotHas
      isplitl [Hs]
      · iexists _
        isplitr
        rotate_left
        · iexact Hs
        · ipureintro; exact View.read_write_univ _ _
      iexact Hk
    iexact Hss
  iexact Hrest

/-- Sending a slot to the partner. -/
theorem step_send (n : ℕ) (j : J) (hT : T[n]? = some (.send j)) (hs : sp n j = 1) {dst : Dev nD} (hd : dst = payer j.1 c)
    {hsc : (slotM rM j).view.ref.isScScratch = false}
    {hsrc : (slotM sM j).view.WordExact} {hdst : (slotM rM j).view.WordExact}
    {hsem : DmaTarget.Typed .vmem (.dma (recvS j)) (.remote (Dev.tc dst : Thread nD τ) (slotM rM j) (.dma (sendS j)) hsc)}
    {k : PUnit → Prog (TpuEff nD τ sig (Elt F) Λ₀ .tc) α}
    (h : St X Y K c g₀ R (n + 1) ⊢ Run c (k ⟨⟩) Q) :
    St X Y K c g₀ R n ⊢ Run c (Prog.lift (.enqueueDma (slotM sM j) (.remote (Dev.tc dst) (slotM rM j) (.dma (sendS j)) hsc) (.dma (recvS j)) hsrc hdst hsem) >>= k) Q := by
  subst hd
  unfold St at h ⊢
  rw [sends_move X c hT j (fun i => rfl), hs, sendRes_2, recvs_keep X c hT (fun _ => rfl), outAt_step Y g₀ hT] at h
  rw [sends_at X c n j, hs, sendRes_1]
  iintro ⟨#Hr, ⟨⟨Hs, Hk⟩, Hss⟩, Hrv, HO, Hrest⟩
  unfold slotHas slotAt sendKit slotAny owing
  icases Hs with ⟨%f, %hf, Hs⟩
  icases Hk with ⟨Hat, HtS, HtR, #HrS, ⟨⟨%fd, HsN⟩, #HrV⟩⟩
  icases HO with ⟨%W, HO⟩
  ihave #HIs := (recs_send X K c j) $$ Hr
  ihave #HIr := (recs_recv X K (payer j.1 c) j) $$ Hr
  have hset (b : Memref sig .tc .vmem S4x2x2x128x512 .bf16) : (slotM b j).view.set = (b.access (slotRect j)).set := View.set_reshape _ _
  iapply (Rounds.wp_send_pointsTo 𝒱₀ ER (rd X) (c : Thread nD τ) none (c' := (payer j.1 c : Thread nD τ)) (src := slotM sM j) (dst := slotM rM j)
      (sS := .dma (sendS j)) (sem := .dma (recvS j)) (q := fullShare) (fs := f) (κ₁ := K (sendCell c j)) (κ₂ := K (recvCell (payer j.1 c) j))
      (r₁ := 0) (r₂ := 0) (d₁ := false) (d₂ := false) (fd := fd)
      (by rw [duties_send]; exact Finset.mem_singleton_self _) (by rw [duties_recv]; exact Finset.mem_singleton_self _)
      () () N rfl (amount_send X c j false) (amount_recv X (payer j.1 c) j false) (O c (n + 1)) (O_step c hT) (W := W)
      (by rw [payload_send, hset]; unfold slotAny; iintro H; iexists f; iexact H)
      (by
        rw [payload_recv, hset]; unfold recvPay slotHas
        iintro H; iexists _
        isplitr
        rotate_left
        · iexact H
        · ipureintro; rw [payer_payer, ← hf]; exact read_write_reshape _ _ _ _ _)) $$ [Hs HsN HO HtS HtR]
  · rw [hset, hset]
    isplitr; · iexact HIs
    isplitr; · iexact HIr
    isplitl [Hs]; · iexact Hs
    isplitl [HsN]; · iexact HsN
    isplitl [HO]; · iexact HO
    isplitl [HtS]; · iexact HtS
    isplitr; · iexact HrS
    isplitl [HtR]; · iexact HtR
    iexact HrV
  iintro ⟨Hc, HO⟩
  iapply h
  isplitr; · iexact Hr
  isplitl [Hat Hc Hss]
  · isplitl [Hat Hc]
    · isplitl [Hat] <;> iassumption
    iexact Hss
  isplitl [Hrv]; · iexact Hrv
  isplitl [HO]; · unfold owing; iexists W; iexact HO
  iexact Hrest

/-- Waiting for a slot to arrive. -/
theorem step_recv (n : ℕ) (j : J) (hT : T[n]? = some (.recv j)) (hs : rp n j = 0)
    (hlv : ∀ e ∈ T.drop n, ∀ i, e = .send i → lvSlot j < lvSlot i)
    {hsrc : (slotM sM j).view.WordExact} {hdst : (slotM rM j).view.WordExact}
    {k : PUnit → Prog (TpuEff nD τ sig (Elt F) Λ₀ .tc) α}
    (h : St X Y K c g₀ R (n + 1) ⊢ Run c (k ⟨⟩) Q) :
    St X Y K c g₀ R n ⊢ Run c (Prog.lift (.waitDma2 (recvS j) (slotM sM j) (slotM rM j) hsrc hdst) >>= k) Q := by
  unfold St at h ⊢
  rw [recvs_move X c hT j (fun i => rfl), hs, recvRes_1, sends_keep X c hT (fun _ => rfl), ← owing_keep c hT rfl, outAt_step Y g₀ hT] at h
  rw [recvs_at X c n j, hs, recvRes_0]
  iintro ⟨#Hr, Hsd, ⟨⟨Hat, Hc⟩, Hrr⟩, HO, Hrest⟩
  unfold owing
  icases HO with ⟨%W, HO⟩
  ihave #HIr := (recs_recv X K c j) $$ Hr
  ihave #Hlev := (recs_lev X K) $$ Hr
  iapply (Rounds.wp_wait_rest_token 𝒱₀ ER (rd X) (c : Thread nD τ) none (κ := K (recvCell c j))
      (wpE_waitDma2_eq (src := slotM sM j) (dst := slotM rM j) 𝒱₀ (c : Thread nD τ) none Set.univ) (Set.mem_univ _) () (O := O c n) (W := W) (R := 0) (m := 0) (T := ∅)
      ((Nat.zero_add _).trans (expect_recv X c j).symm)) $$ [Hc HO Hat]
  · isplitr; · iexact HIr
    isplitl [Hc]; · iexact Hc
    isplitl [HO]; · iexact HO
    isplitr; · iapply (mayWait c (.dma (recvS j)) n (fun e he i hi => by rw [lv_recv]; exact hlv e he i hi)); iexact Hlev
    iexact Hat
  iintro ⟨HO, Hat, -, Hpay⟩
  ihave Hs := (Entails.of_eq ((rest_recv X c j).trans (by unfold recvPay; rfl))) $$ Hpay
  iapply h
  isplitr; · iexact Hr
  isplitl [Hsd]; · iexact Hsd
  isplitl [Hat Hs Hrr]
  · isplitl [Hat Hs]
    · isplitl [Hs] <;> iassumption
    iexact Hrr
  isplitl [HO]; · unfold owing; iexists _; iexact HO
  iexact Hrest

/-- Reading a slot that has arrived. -/
theorem step_read (n : ℕ) (j : J) (hs : rp n j = 1) {hl : rM.view.LoadsAt (slotRect j).toLoadRect}
    {k : Vec F S1x1x1x128x512 .bf16 → Prog (TpuEff nD τ sig (Elt F) Λ₀ .tc) α}
    (h : St X Y K c g₀ R n ⊢ Run c (k (X (payer j.1 c) j)) Q) :
    St X Y K c g₀ R n ⊢ Run c (Prog.lift (.load rM (slotRect j).toLoadRect hl) >>= k) Q := by
  unfold St at h ⊢
  rw [recvs_at X c n j, hs, recvRes_1] at h ⊢
  iintro ⟨#Hr, Hsd, ⟨⟨Hs, Hk⟩, Hrr⟩, Hrest⟩
  unfold slotHas slotAt
  icases Hs with ⟨%f, %hf, Hs⟩
  iapply (wp_load_rect 𝒱₀ (c : Thread nD τ) none Set.univ (m := rM) (r := slotRect j) (Finset.Subset.refl _)) $$ Hs
  iintro Hs
  rw [hf]
  iapply h
  isplitr; · iexact Hr
  isplitl [Hsd]; · iexact Hsd
  isplitl [Hs Hk Hrr]
  · isplitl [Hs Hk]
    · unfold slotHas
      isplitl [Hs]
      · iexists f
        isplitr; · ipureintro; exact hf
        iexact Hs
      iexact Hk
    iexact Hrr
  iexact Hrest

/-- Waiting for a send slot to come back. -/
theorem step_back (n : ℕ) (j : J) (hT : T[n]? = some (.back j)) (hs : sp n j = 2)
    (hlv : ∀ e ∈ T.drop n, ∀ i, e = .send i → 0 < lvSlot i)
    {hsrc : (slotM rM j).view.WordExact} {hdst : (slotM sM j).view.WordExact}
    {k : PUnit → Prog (TpuEff nD τ sig (Elt F) Λ₀ .tc) α}
    (h : St X Y K c g₀ R (n + 1) ⊢ Run c (k ⟨⟩) Q) :
    St X Y K c g₀ R n ⊢ Run c (Prog.lift (.waitDma2 (sendS j) (slotM rM j) (slotM sM j) hsrc hdst) >>= k) Q := by
  unfold St at h ⊢
  rw [sends_move X c hT j (fun i => rfl), hs, sendRes_3, recvs_keep X c hT (fun _ => rfl), ← owing_keep c hT rfl, outAt_step Y g₀ hT] at h
  rw [sends_at X c n j, hs, sendRes_2]
  iintro ⟨#Hr, ⟨⟨Hat, Hc⟩, Hss⟩, Hrv, HO, Hrest⟩
  unfold owing
  icases HO with ⟨%W, HO⟩
  ihave #HIs := (recs_send X K c j) $$ Hr
  ihave #Hlev := (recs_lev X K) $$ Hr
  iapply (Rounds.wp_wait_rest_token 𝒱₀ ER (rd X) (c : Thread nD τ) none (κ := K (sendCell c j))
      (wpE_waitDma2_eq (src := slotM rM j) (dst := slotM sM j) 𝒱₀ (c : Thread nD τ) none Set.univ) (Set.mem_univ _) () (O := O c n) (W := W) (R := 0) (m := 0) (T := ∅)
      ((Nat.zero_add _).trans (expect_send X c j).symm)) $$ [Hc HO Hat]
  · isplitr; · iexact HIs
    isplitl [Hc]; · iexact Hc
    isplitl [HO]; · iexact HO
    isplitr; · iapply (mayWait c (.dma (sendS j)) n (fun e he i hi => by rw [lv_send]; exact hlv e he i hi)); iexact Hlev
    iexact Hat
  iintro ⟨HO, Hat, -, Hpay⟩
  ihave Hs := (Entails.of_eq (rest_send X c j)) $$ Hpay
  iapply h
  isplitr; · iexact Hr
  isplitl [Hat Hs Hss]
  · isplitl [Hat Hs]
    · isplitl [Hs] <;> iassumption
    iexact Hss
  isplitl [Hrv]; · iexact Hrv
  isplitl [HO]; · unfold owing; iexists _; iexact HO
  iexact Hrest

/-- Reading a block of the result buffer whose contents do not matter. -/
theorem step_look (n : ℕ) (i : Fin 4 × Fin 2) {hl : oM.view.LoadsAt (outRect i).toLoadRect}
    {k : Vec F S128x512 .f32 → Prog (TpuEff nD τ sig (Elt F) Λ₀ .tc) α}
    (h : ∀ v, St X Y K c g₀ R n ⊢ Run c (k v) Q) :
    St X Y K c g₀ R n ⊢ Run c (Prog.lift (.load oM (outRect i).toLoadRect hl) >>= k) Q := by
  unfold St at h ⊢
  iintro ⟨#Hr, Hsd, Hrv, HO, Ho, HR⟩
  iapply (wp_load_rect 𝒱₀ (c : Thread nD τ) none Set.univ (m := oM) (r := outRect i) (Finset.subset_univ _)) $$ Ho
  iintro Ho
  iapply (h _)
  isplitr; · iexact Hr
  isplitl [Hsd]; · iexact Hsd
  isplitl [Hrv]; · iexact Hrv
  isplitl [HO]; · iexact HO
  isplitl [Ho] <;> iassumption

/-- Storing a block of the result. -/
theorem step_out (n : ℕ) (i : Fin 4 × Fin 2) (hT : T[n]? = some (.out i)) {w : Vec F S128x512 .f32} (hw : w = Y i)
    {hx : (oM.access (outRect i)).Stores Finset.univ} {hm : Finset.univ = Finset.univ ∨ ∀ a, (outRect i).stride a = 1}
    {k : PUnit → Prog (TpuEff nD τ sig (Elt F) Λ₀ .tc) α}
    (h : St X Y K c g₀ R (n + 1) ⊢ Run c (k ⟨⟩) Q) :
    St X Y K c g₀ R n ⊢ Run c (Prog.lift (.store oM (outRect i) w Finset.univ hx hm) >>= k) Q := by
  subst hw
  unfold St at h ⊢
  rw [sends_keep X c hT (fun _ => rfl), recvs_keep X c hT (fun _ => rfl), ← owing_keep c hT rfl, outAt_step Y g₀ hT] at h
  iintro ⟨#Hr, Hsd, Hrv, HO, Ho, HR⟩
  iapply (wp_store 𝒱₀ (c : Thread nD τ) none Set.univ (m := oM) (r := outRect i) (Finset.subset_univ _)) $$ Ho
  iintro Ho
  iapply h
  isplitr; · iexact Hr
  isplitl [Hsd]; · iexact Hsd
  isplitl [Hrv]; · iexact Hrv
  isplitl [HO]; · iexact HO
  isplitl [Ho]; · iexact Ho
  iexact HR

end Rules

end Cert.KernelIdeal.Talk

end
-- ==== Proof.Contents.lean ====
/-
  What every slot carries and every block of the result holds, from each device's attention rows `A` and its
  shard of the output projection `B`.

  A device multiplies four quarters of its rows by its projection, rounds each to bf16 and cuts it in two halves. A
  half crosses the mesh twice: first as it is, then, once the partner's has been added in f32, as that sum rounded.
-/
module

public import proofs.«01_k».proof.Proof.Steps
public import proofs.«01_k».proof.Proof.Gen.KernelIdeal.Skeleton

@[expose] public section

set_option maxRecDepth 16384

noncomputable section

namespace Cert.KernelIdeal.Talk

open Idealize.ShloMosaic
open Cert.KernelIdeal.Facts₀ Cert.KernelIdeal.Facts

variable {F : FTy → Type} [FloatOps F] [Named F]

/-- Quarter `k` of the attention rows `a`. -/
def quarter (a : FVec F S512x1024 .bf16) : Fin 4 → FVec F S128x1024 .bf16
  | 0 => extractStridedSlice S128x1024 ![0, 0] a slices_S512x1024_o0_0_S128x1024
  | 1 => extractStridedSlice S128x1024 ![128, 0] a slices_S512x1024_o128_0_S128x1024
  | 2 => extractStridedSlice S128x1024 ![256, 0] a slices_S512x1024_o256_0_S128x1024
  | 3 => extractStridedSlice S128x1024 ![384, 0] a slices_S512x1024_o384_0_S128x1024

/-- A quarter times the projection, rounded to bf16. -/
def product (b : FVec F S1024x1024 .bf16) (a : FVec F S128x1024 .bf16) : FVec F S128x1024 .bf16 :=
  truncf .bf16 (matmul dot_S128x1024_S1024x1024_S128x1024_1_0_0_1_n_n none a b (constant S128x1024 .f32 0x00000000#32)) bitsLt_bf16_f32

/-- Columns `512 h …` of a product. -/
def halfOf (p : FVec F S128x1024 .bf16) : Fin 2 → FVec F S128x512 .bf16
  | 0 => extractStridedSlice S128x512 ![0, 0] p slices_S128x1024_o0_0_S128x512
  | 1 => extractStridedSlice S128x512 ![0, 512] p slices_S128x1024_o0_512_S128x512

/-- A block as the contents of a slot, and back. -/
def toSlot (v : FVec F S128x512 .bf16) : Vec F S1x1x1x128x512 .bf16 := shapeCast S1x1x1x128x512 v shapeCasts_S128x512_S1x1x1x128x512
def ofSlot (v : Vec F S1x1x1x128x512 .bf16) : FVec F S128x512 .bf16 := shapeCast S128x512 v shapeCasts_S1x1x1x128x512_S128x512

/-- A running f32 sum with an arrived slot added. -/
def plus (a : FVec F S128x512 .f32) (v : Vec F S1x1x1x128x512 .bf16) : FVec F S128x512 .f32 :=
  addf a (extf .f32 (ofSlot v) bitsLt_bf16_f32)

/-- The first and second directions a half travels in: left halves to the neighbour first, right halves across first. -/
def way : Fin 2 → Fin 2 → Bool
  | 0, 0 => false
  | 1, 0 => true
  | 0, 1 => true
  | 1, 1 => false

/-- The half a slot belongs to. -/
def hf (j : J) : Fin 2 := if j.1 = (if j.2.2 = 0 then false else true) then 0 else 1

theorem way_hf (j : J) : way (hf j) j.2.2 = j.1 := by revert j; decide

section
variable (A : Dev nD → FVec F S512x1024 .bf16) (B : Dev nD → FVec F S1024x1024 .bf16)

/-- Device `c`'s own block `(k, h)`, rounded. -/
def own (c : Dev nD) (i : Fin 4 × Fin 2) : FVec F S128x512 .bf16 := halfOf (product (B c) (quarter (A c) i.1)) i.2

/-- The same in f32, where the sums are taken. -/
def mine (c : Dev nD) (i : Fin 4 × Fin 2) : FVec F S128x512 .f32 := extf .f32 (own A B c i) bitsLt_bf16_f32

/-- Block `(k, h)` after one exchange: the device's own and its first partner's. -/
def pair (c : Dev nD) (i : Fin 4 × Fin 2) : FVec F S128x512 .f32 :=
  plus (mine A B c i) (toSlot (own A B (payer (way i.2 0) c) i))

/-- The slot contents device `c` sends. -/
def sent : Sent F := fun c j =>
  if j.2.2 = 0 then toSlot (own A B c (j.2.1, hf j)) else toSlot (truncf .bf16 (pair A B c (j.2.1, hf j)) bitsLt_bf16_f32)

/-- Block `(k, h)` of device `c`'s result. -/
def block (c : Dev nD) : Blocks F := fun i =>
  plus (pair A B c i) (toSlot (truncf .bf16 (pair A B (payer (way i.2 1) c) i) bitsLt_bf16_f32))

end

end Cert.KernelIdeal.Talk
-- ==== Proof.Parts.lean ====
/-
  The printed parts of the kernel's body after the barrier, each run from the state before its first event to the
  state after its last, with the values it computes named by what they are: a quarter's product, a block, a sum.
-/
module

public import proofs.«01_k».proof.Proof.Contents

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Named F]

local notation "𝕄" => MT nD τ sig Unit (Elt F) ℕ UU ℕ

section Parts

variable (A : Dev nD → FVec F S512x1024 .bf16) (B : Dev nD → FVec F S1024x1024 .bf16)
  (K : GSem nD τ sig → ℕ) (c : Dev nD) (g₀ : OutBuf F) (R : sProp (MT nD τ sig Unit (Elt F) ℕ UU ℕ))
  (m0 : Memref sig .tc .vmem S512x1024 .bf16) (h0 : m0.IsWhole) (m1 : Memref sig .tc .vmem S1024x1024 .bf16) (h1 : m1.IsWhole)
  (m2 : Memref sig .tc .vmem S1024x1024 .bf16) (h2 : m2.IsWhole) (m3 : Memref sig .tc .vmem S1024x1024 .bf16) (h3 : m3.IsWhole)
  (m4 : Memref sig .tc .vmem S1024x1024 .bf16) (h4 : m4.IsWhole) (h5 : oM.IsWhole) (h6 : sM.IsWhole) (h7 : rM.IsWhole)

/-- The state before event `n`, with the contents these attention rows and projections make. -/
abbrev At (n : ℕ) : sProp 𝕄 := St (sent A B) (block A B c) K c g₀ R n

/-- Part 4 of the body, from event 0 on. -/
theorem run_part4 {Q} (v3) (h : At A B K c g₀ R 3 ⊢ Q (product (B c) (quarter (A c) 0))) :
    At A B K c g₀ R 0 ⊢ Run c (k0_part4 m0 h0 m1 h1 m2 h2 m3 h3 m4 h4 oM h5 sM h6 rM h7 cc0_scratch2 cc0_scratch3 c v3 (B c) (quarter (A c) 0)) Q := by
  rw [Gen.k0_part4_eq_skeleton]; unfold Gen.k0_part4_skel
  refine step_peek _ _ K c g₀ R 0 (false, 0, 0) (by decide) fun _ => ?_
  refine step_fill _ _ K c g₀ R 0 (false, 0, 0) (by decide) (by decide) rfl ?_
  refine step_send _ _ K c g₀ R 1 (false, 0, 0) (by decide) (by decide) (by clear h; revert c; decide) ?_
  refine step_peek _ _ K c g₀ R 2 (true, 0, 0) (by decide) fun _ => ?_
  refine step_fill _ _ K c g₀ R 2 (true, 0, 0) (by decide) (by decide) rfl ?_
  exact step_ret c _ h

/-- Part 5 of the body, from event 3 on. -/
theorem run_part5 {Q} (v3) (v4) (h : At A B K c g₀ R 5 ⊢ Q ⟨(mine A B c (0, 0)), (mine A B c (0, 1)), (product (B c) (quarter (A c) 1))⟩) :
    At A B K c g₀ R 3 ⊢ Run c (k0_part5 m0 h0 m1 h1 m2 h2 m3 h3 m4 h4 oM h5 sM h6 rM h7 cc0_scratch2 cc0_scratch3 c v3 v4 (B c) (A c) (product (B c) (quarter (A c) 0))) Q := by
  rw [Gen.k0_part5_eq_skeleton]; unfold Gen.k0_part5_skel
  refine step_send _ _ K c g₀ R 3 (true, 0, 0) (by decide) (by decide) (by clear h; revert c; decide) ?_
  refine step_peek _ _ K c g₀ R 4 (false, 1, 0) (by decide) fun _ => ?_
  refine step_fill _ _ K c g₀ R 4 (false, 1, 0) (by decide) (by decide) rfl ?_
  exact step_ret c _ h

/-- Part 6 of the body, from event 5 on. -/
theorem run_part6 {Q} (v4) (h : At A B K c g₀ R 8 ⊢ Q ⟨(mine A B c (1, 0)), (mine A B c (1, 1)), (product (B c) (quarter (A c) 2)), (own A B c (2, 0))⟩) :
    At A B K c g₀ R 5 ⊢ Run c (k0_part6 m0 h0 m1 h1 m2 h2 m3 h3 m4 h4 oM h5 sM h6 rM h7 cc0_scratch2 cc0_scratch3 c v4 (B c) (A c) (product (B c) (quarter (A c) 1))) Q := by
  rw [Gen.k0_part6_eq_skeleton]; unfold Gen.k0_part6_skel
  refine step_send _ _ K c g₀ R 5 (false, 1, 0) (by decide) (by decide) (by clear h; revert c; decide) ?_
  refine step_peek _ _ K c g₀ R 6 (true, 1, 0) (by decide) fun _ => ?_
  refine step_fill _ _ K c g₀ R 6 (true, 1, 0) (by decide) (by decide) rfl ?_
  refine step_send _ _ K c g₀ R 7 (true, 1, 0) (by decide) (by decide) (by clear h; revert c; decide) ?_
  exact step_ret c _ h

/-- Part 7 of the body, from event 8 on. -/
theorem run_part7 {Q} (v3) (v4) (h : At A B K c g₀ R 11 ⊢ Q ⟨⟩) :
    At A B K c g₀ R 8 ⊢ Run c (k0_part7 m0 h0 m1 h1 m2 h2 m3 h3 m4 h4 oM h5 sM h6 rM h7 cc0_scratch2 cc0_scratch3 c v3 v4 (product (B c) (quarter (A c) 2)) (own A B c (2, 0))) Q := by
  rw [Gen.k0_part7_eq_skeleton]; unfold Gen.k0_part7_skel
  refine step_peek _ _ K c g₀ R 8 (false, 2, 0) (by decide) fun _ => ?_
  refine step_fill _ _ K c g₀ R 8 (false, 2, 0) (by decide) (by decide) rfl ?_
  refine step_send _ _ K c g₀ R 9 (false, 2, 0) (by decide) (by decide) (by clear h; revert c; decide) ?_
  refine step_peek _ _ K c g₀ R 10 (true, 2, 0) (by decide) fun _ => ?_
  refine step_fill _ _ K c g₀ R 10 (true, 2, 0) (by decide) (by decide) rfl ?_
  exact step_ret c _ h

/-- Part 8 of the body, from event 11 on. -/
theorem run_part8 {Q} (v3) (h : ∀ v, At A B K c g₀ R 13 ⊢ Q ⟨(mine A B c (2, 0)), (mine A B c (2, 1)), (pair A B c (0, 0)), (truncf .bf16 (pair A B c (0, 0)) bitsLt_bf16_f32), v⟩) :
    At A B K c g₀ R 11 ⊢ Run c (k0_part8 m0 h0 m1 h1 m2 h2 m3 h3 m4 h4 oM h5 sM h6 rM h7 cc0_scratch2 cc0_scratch3 c v3 (mine A B c (0, 0)) (product (B c) (quarter (A c) 2))) Q := by
  rw [Gen.k0_part8_eq_skeleton]; unfold Gen.k0_part8_skel
  refine step_send _ _ K c g₀ R 11 (true, 2, 0) (by decide) (by decide) (by clear h; revert c; decide) ?_
  refine step_recv _ _ K c g₀ R 12 (false, 0, 0) (by decide) (by decide) (by decide) ?_
  refine step_read _ _ K c g₀ R 13 (false, 0, 0) (by decide) ?_
  refine step_peek _ _ K c g₀ R 13 (true, 0, 1) (by decide) fun _ => ?_
  exact step_ret c _ (h _)

/-- Part 9 of the body, from event 13 on. -/
theorem run_part9 {Q} (v4) (v243) (h : At A B K c g₀ R 16 ⊢ Q ⟨⟩) :
    At A B K c g₀ R 13 ⊢ Run c (k0_part9 m0 h0 m1 h1 m2 h2 m3 h3 m4 h4 oM h5 sM h6 rM h7 cc0_scratch2 cc0_scratch3 c v4 (truncf .bf16 (pair A B c (0, 0)) bitsLt_bf16_f32) v243) Q := by
  rw [Gen.k0_part9_eq_skeleton]; unfold Gen.k0_part9_skel
  refine step_fill _ _ K c g₀ R 13 (true, 0, 1) (by decide) (by decide) rfl ?_
  refine step_send _ _ K c g₀ R 14 (true, 0, 1) (by decide) (by decide) (by clear h; revert c; decide) ?_
  refine step_recv _ _ K c g₀ R 15 (true, 0, 0) (by decide) (by decide) (by decide) ?_
  exact step_ret c _ h

/-- Part 10 of the body, from event 16 on. -/
theorem run_part10 {Q} (v3) (h : At A B K c g₀ R 18 ⊢ Q ⟨(pair A B c (0, 1)), (product (B c) (quarter (A c) 3)), (toSlot (own A B c (3, 0)))⟩) :
    At A B K c g₀ R 16 ⊢ Run c (k0_part10 m0 h0 m1 h1 m2 h2 m3 h3 m4 h4 oM h5 sM h6 rM h7 cc0_scratch2 cc0_scratch3 c v3 (B c) (A c) (mine A B c (0, 1))) Q := by
  rw [Gen.k0_part10_eq_skeleton]; unfold Gen.k0_part10_skel
  refine step_read _ _ K c g₀ R 16 (true, 0, 0) (by decide) ?_
  refine step_peek _ _ K c g₀ R 16 (false, 0, 1) (by decide) fun _ => ?_
  refine step_fill _ _ K c g₀ R 16 (false, 0, 1) (by decide) (by decide) rfl ?_
  refine step_send _ _ K c g₀ R 17 (false, 0, 1) (by decide) (by decide) (by clear h; revert c; decide) ?_
  refine step_peek _ _ K c g₀ R 18 (false, 3, 0) (by decide) fun _ => ?_
  exact step_ret c _ h

/-- Part 11 of the body, from event 18 on. -/
theorem run_part11 {Q} (v3) (v4) (h : At A B K c g₀ R 21 ⊢ Q ⟨⟩) :
    At A B K c g₀ R 18 ⊢ Run c (k0_part11 m0 h0 m1 h1 m2 h2 m3 h3 m4 h4 oM h5 sM h6 rM h7 cc0_scratch2 cc0_scratch3 c v3 v4 (product (B c) (quarter (A c) 3)) (toSlot (own A B c (3, 0)))) Q := by
  rw [Gen.k0_part11_eq_skeleton]; unfold Gen.k0_part11_skel
  refine step_fill _ _ K c g₀ R 18 (false, 3, 0) (by decide) (by decide) rfl ?_
  refine step_send _ _ K c g₀ R 19 (false, 3, 0) (by decide) (by decide) (by clear h; revert c; decide) ?_
  refine step_peek _ _ K c g₀ R 20 (true, 3, 0) (by decide) fun _ => ?_
  refine step_fill _ _ K c g₀ R 20 (true, 3, 0) (by decide) (by decide) rfl ?_
  exact step_ret c _ h

/-- Part 12 of the body, from event 21 on. -/
theorem run_part12 {Q} (v3) (h : At A B K c g₀ R 24 ⊢ Q ⟨(mine A B c (3, 0)), (mine A B c (3, 1)), (pair A B c (1, 0))⟩) :
    At A B K c g₀ R 21 ⊢ Run c (k0_part12 m0 h0 m1 h1 m2 h2 m3 h3 m4 h4 oM h5 sM h6 rM h7 cc0_scratch2 cc0_scratch3 c v3 (mine A B c (1, 0)) (product (B c) (quarter (A c) 3))) Q := by
  rw [Gen.k0_part12_eq_skeleton]; unfold Gen.k0_part12_skel
  refine step_send _ _ K c g₀ R 21 (true, 3, 0) (by decide) (by decide) (by clear h; revert c; decide) ?_
  refine step_recv _ _ K c g₀ R 22 (false, 1, 0) (by decide) (by decide) (by decide) ?_
  refine step_read _ _ K c g₀ R 23 (false, 1, 0) (by decide) ?_
  refine step_peek _ _ K c g₀ R 23 (true, 1, 1) (by decide) fun _ => ?_
  refine step_fill _ _ K c g₀ R 23 (true, 1, 1) (by decide) (by decide) rfl ?_
  exact step_ret c _ h

/-- Part 13 of the body, from event 24 on. -/
theorem run_part13 {Q} (v4) (h : At A B K c g₀ R 26 ⊢ Q ⟨⟩) :
    At A B K c g₀ R 24 ⊢ Run c (k0_part13 m0 h0 m1 h1 m2 h2 m3 h3 m4 h4 oM h5 sM h6 rM h7 cc0_scratch2 cc0_scratch3 c v4) Q := by
  rw [Gen.k0_part13_eq_skeleton]; unfold Gen.k0_part13_skel
  refine step_send _ _ K c g₀ R 24 (true, 1, 1) (by decide) (by decide) (by clear h; revert c; decide) ?_
  refine step_recv _ _ K c g₀ R 25 (true, 1, 0) (by decide) (by decide) (by decide) ?_
  exact step_ret c _ h

/-- Part 14 of the body, from event 26 on. -/
theorem run_part14 {Q} (v3) (h : At A B K c g₀ R 28 ⊢ Q (pair A B c (1, 1))) :
    At A B K c g₀ R 26 ⊢ Run c (k0_part14 m0 h0 m1 h1 m2 h2 m3 h3 m4 h4 oM h5 sM h6 rM h7 cc0_scratch2 cc0_scratch3 c v3 (mine A B c (1, 1))) Q := by
  rw [Gen.k0_part14_eq_skeleton]; unfold Gen.k0_part14_skel
  refine step_read _ _ K c g₀ R 26 (true, 1, 0) (by decide) ?_
  refine step_peek _ _ K c g₀ R 26 (false, 1, 1) (by decide) fun _ => ?_
  refine step_fill _ _ K c g₀ R 26 (false, 1, 1) (by decide) (by decide) rfl ?_
  refine step_send _ _ K c g₀ R 27 (false, 1, 1) (by decide) (by decide) (by clear h; revert c; decide) ?_
  exact step_ret c _ h

/-- Part 15 of the body, from event 28 on. -/
theorem run_part15 {Q} (v4) (h : At A B K c g₀ R 31 ⊢ Q (pair A B c (2, 0))) :
    At A B K c g₀ R 28 ⊢ Run c (k0_part15 m0 h0 m1 h1 m2 h2 m3 h3 m4 h4 oM h5 sM h6 rM h7 cc0_scratch2 cc0_scratch3 c v4 (mine A B c (2, 0))) Q := by
  rw [Gen.k0_part15_eq_skeleton]; unfold Gen.k0_part15_skel
  refine step_recv _ _ K c g₀ R 28 (false, 2, 0) (by decide) (by decide) (by decide) ?_
  refine step_read _ _ K c g₀ R 29 (false, 2, 0) (by decide) ?_
  refine step_peek _ _ K c g₀ R 29 (true, 2, 1) (by decide) fun _ => ?_
  refine step_fill _ _ K c g₀ R 29 (true, 2, 1) (by decide) (by decide) rfl ?_
  refine step_send _ _ K c g₀ R 30 (true, 2, 1) (by decide) (by decide) (by clear h; revert c; decide) ?_
  exact step_ret c _ h

/-- Part 16 of the body, from event 31 on. -/
theorem run_part16 {Q} (v3) (v4) (h : At A B K c g₀ R 33 ⊢ Q (pair A B c (2, 1))) :
    At A B K c g₀ R 31 ⊢ Run c (k0_part16 m0 h0 m1 h1 m2 h2 m3 h3 m4 h4 oM h5 sM h6 rM h7 cc0_scratch2 cc0_scratch3 v3 v4 (mine A B c (2, 1))) Q := by
  rw [Gen.k0_part16_eq_skeleton]; unfold Gen.k0_part16_skel
  refine step_recv _ _ K c g₀ R 31 (true, 2, 0) (by decide) (by decide) (by decide) ?_
  refine step_read _ _ K c g₀ R 32 (true, 2, 0) (by decide) ?_
  refine step_peek _ _ K c g₀ R 32 (false, 2, 1) (by decide) fun _ => ?_
  refine step_fill _ _ K c g₀ R 32 (false, 2, 1) (by decide) (by decide) rfl ?_
  exact step_ret c _ h

/-- Part 17 of the body, from event 33 on. -/
theorem run_part17 {Q} (v3) (h : At A B K c g₀ R 36 ⊢ Q (pair A B c (3, 0))) :
    At A B K c g₀ R 33 ⊢ Run c (k0_part17 m0 h0 m1 h1 m2 h2 m3 h3 m4 h4 oM h5 sM h6 rM h7 cc0_scratch2 cc0_scratch3 c v3 (mine A B c (3, 0))) Q := by
  rw [Gen.k0_part17_eq_skeleton]; unfold Gen.k0_part17_skel
  refine step_send _ _ K c g₀ R 33 (false, 2, 1) (by decide) (by decide) (by clear h; revert c; decide) ?_
  refine step_recv _ _ K c g₀ R 34 (false, 3, 0) (by decide) (by decide) (by decide) ?_
  refine step_read _ _ K c g₀ R 35 (false, 3, 0) (by decide) ?_
  refine step_peek _ _ K c g₀ R 35 (true, 3, 1) (by decide) fun _ => ?_
  refine step_fill _ _ K c g₀ R 35 (true, 3, 1) (by decide) (by decide) rfl ?_
  exact step_ret c _ h

/-- Part 18 of the body, from event 36 on. -/
theorem run_part18 {Q} (v4) (h : At A B K c g₀ R 38 ⊢ Q ⟨⟩) :
    At A B K c g₀ R 36 ⊢ Run c (k0_part18 m0 h0 m1 h1 m2 h2 m3 h3 m4 h4 oM h5 sM h6 rM h7 cc0_scratch2 cc0_scratch3 c v4) Q := by
  rw [Gen.k0_part18_eq_skeleton]; unfold Gen.k0_part18_skel
  refine step_send _ _ K c g₀ R 36 (true, 3, 1) (by decide) (by decide) (by clear h; revert c; decide) ?_
  refine step_recv _ _ K c g₀ R 37 (true, 3, 0) (by decide) (by decide) (by decide) ?_
  exact step_ret c _ h

/-- Part 19 of the body, from event 38 on. -/
theorem run_part19 {Q} (v3) (v4) (h : At A B K c g₀ R 40 ⊢ Q (pair A B c (3, 1))) :
    At A B K c g₀ R 38 ⊢ Run c (k0_part19 m0 h0 m1 h1 m2 h2 m3 h3 m4 h4 oM h5 sM h6 rM h7 cc0_scratch2 cc0_scratch3 c v3 v4 (mine A B c (3, 1))) Q := by
  rw [Gen.k0_part19_eq_skeleton]; unfold Gen.k0_part19_skel
  refine step_read _ _ K c g₀ R 38 (true, 3, 0) (by decide) ?_
  refine step_peek _ _ K c g₀ R 38 (false, 3, 1) (by decide) fun _ => ?_
  refine step_fill _ _ K c g₀ R 38 (false, 3, 1) (by decide) (by decide) rfl ?_
  refine step_send _ _ K c g₀ R 39 (false, 3, 1) (by decide) (by decide) (by clear h; revert c; decide) ?_
  exact step_ret c _ h

/-- Part 20 of the body, from event 40 on. -/
theorem run_part20 {Q} (v3) (h : At A B K c g₀ R 43 ⊢ Q (block A B c (0, 1))) :
    At A B K c g₀ R 40 ⊢ Run c (k0_part20 m0 h0 m1 h1 m2 h2 m3 h3 m4 h4 oM h5 sM h6 rM h7 cc0_scratch2 cc0_scratch3 v3 (pair A B c (0, 0)) (pair A B c (0, 1))) Q := by
  rw [Gen.k0_part20_eq_skeleton]; unfold Gen.k0_part20_skel
  refine step_recv _ _ K c g₀ R 40 (true, 0, 1) (by decide) (by decide) (by decide) ?_
  refine step_read _ _ K c g₀ R 41 (true, 0, 1) (by decide) ?_
  refine step_look _ _ K c g₀ R 41 (0, 0) fun _ => ?_
  refine step_out _ _ K c g₀ R 41 (0, 0) (by decide) rfl ?_
  refine step_recv _ _ K c g₀ R 42 (false, 0, 1) (by decide) (by decide) (by decide) ?_
  refine step_read _ _ K c g₀ R 43 (false, 0, 1) (by decide) ?_
  exact step_ret c _ h

/-- Part 21 of the body, from event 43 on. -/
theorem run_part21 {Q} (v3) (v4) (h : At A B K c g₀ R 46 ⊢ Q ⟨⟩) :
    At A B K c g₀ R 43 ⊢ Run c (k0_part21 m0 h0 m1 h1 m2 h2 m3 h3 m4 h4 oM h5 sM h6 rM h7 cc0_scratch2 cc0_scratch3 v3 v4 (pair A B c (1, 0)) (block A B c (0, 1))) Q := by
  rw [Gen.k0_part21_eq_skeleton]; unfold Gen.k0_part21_skel
  refine step_look _ _ K c g₀ R 43 (0, 1) fun _ => ?_
  refine step_out _ _ K c g₀ R 43 (0, 1) (by decide) rfl ?_
  refine step_recv _ _ K c g₀ R 44 (true, 1, 1) (by decide) (by decide) (by decide) ?_
  refine step_read _ _ K c g₀ R 45 (true, 1, 1) (by decide) ?_
  refine step_look _ _ K c g₀ R 45 (1, 0) fun _ => ?_
  refine step_out _ _ K c g₀ R 45 (1, 0) (by decide) rfl ?_
  exact step_ret c _ h

/-- Part 22 of the body, from event 46 on. -/
theorem run_part22 {Q} (v4) (h : At A B K c g₀ R 49 ⊢ Q (block A B c (2, 0))) :
    At A B K c g₀ R 46 ⊢ Run c (k0_part22 m0 h0 m1 h1 m2 h2 m3 h3 m4 h4 oM h5 sM h6 rM h7 cc0_scratch2 cc0_scratch3 v4 (pair A B c (1, 1)) (pair A B c (2, 0))) Q := by
  rw [Gen.k0_part22_eq_skeleton]; unfold Gen.k0_part22_skel
  refine step_recv _ _ K c g₀ R 46 (false, 1, 1) (by decide) (by decide) (by decide) ?_
  refine step_read _ _ K c g₀ R 47 (false, 1, 1) (by decide) ?_
  refine step_look _ _ K c g₀ R 47 (1, 1) fun _ => ?_
  refine step_out _ _ K c g₀ R 47 (1, 1) (by decide) rfl ?_
  refine step_recv _ _ K c g₀ R 48 (true, 2, 1) (by decide) (by decide) (by decide) ?_
  refine step_read _ _ K c g₀ R 49 (true, 2, 1) (by decide) ?_
  exact step_ret c _ h

/-- Part 23 of the body, from event 49 on. -/
theorem run_part23 {Q} (v3) (v4) (h : At A B K c g₀ R 52 ⊢ Q ⟨⟩) :
    At A B K c g₀ R 49 ⊢ Run c (k0_part23 m0 h0 m1 h1 m2 h2 m3 h3 m4 h4 oM h5 sM h6 rM h7 cc0_scratch2 cc0_scratch3 v3 v4 (pair A B c (2, 1)) (block A B c (2, 0))) Q := by
  rw [Gen.k0_part23_eq_skeleton]; unfold Gen.k0_part23_skel
  refine step_look _ _ K c g₀ R 49 (2, 0) fun _ => ?_
  refine step_out _ _ K c g₀ R 49 (2, 0) (by decide) rfl ?_
  refine step_recv _ _ K c g₀ R 50 (false, 2, 1) (by decide) (by decide) (by decide) ?_
  refine step_read _ _ K c g₀ R 51 (false, 2, 1) (by decide) ?_
  refine step_look _ _ K c g₀ R 51 (2, 1) fun _ => ?_
  refine step_out _ _ K c g₀ R 51 (2, 1) (by decide) rfl ?_
  exact step_ret c _ h

/-- Part 24 of the body, from event 52 on. -/
theorem run_part24 {Q} (v3) (h : At A B K c g₀ R 55 ⊢ Q (block A B c (3, 1))) :
    At A B K c g₀ R 52 ⊢ Run c (k0_part24 m0 h0 m1 h1 m2 h2 m3 h3 m4 h4 oM h5 sM h6 rM h7 cc0_scratch2 cc0_scratch3 v3 (pair A B c (3, 0)) (pair A B c (3, 1))) Q := by
  rw [Gen.k0_part24_eq_skeleton]; unfold Gen.k0_part24_skel
  refine step_recv _ _ K c g₀ R 52 (true, 3, 1) (by decide) (by decide) (by decide) ?_
  refine step_read _ _ K c g₀ R 53 (true, 3, 1) (by decide) ?_
  refine step_look _ _ K c g₀ R 53 (3, 0) fun _ => ?_
  refine step_out _ _ K c g₀ R 53 (3, 0) (by decide) rfl ?_
  refine step_recv _ _ K c g₀ R 54 (false, 3, 1) (by decide) (by decide) (by decide) ?_
  refine step_read _ _ K c g₀ R 55 (false, 3, 1) (by decide) ?_
  exact step_ret c _ h

/-- Part 25 of the body, from event 55 on. -/
theorem run_part25 {Q}  (h : At A B K c g₀ R 58 ⊢ Q ⟨⟩) :
    At A B K c g₀ R 55 ⊢ Run c (k0_part25 m0 h0 m1 h1 m2 h2 m3 h3 m4 h4 oM h5 sM h6 rM h7 cc0_scratch2 cc0_scratch3 (block A B c (3, 1))) Q := by
  rw [Gen.k0_part25_eq_skeleton]; unfold Gen.k0_part25_skel
  refine step_look _ _ K c g₀ R 55 (3, 1) fun _ => ?_
  refine step_out _ _ K c g₀ R 55 (3, 1) (by decide) rfl ?_
  refine step_back _ _ K c g₀ R 56 (false, 0, 0) (by decide) (by decide) (by decide) ?_
  refine step_back _ _ K c g₀ R 57 (true, 0, 0) (by decide) (by decide) (by decide) ?_
  exact step_ret c _ h

/-- Part 26 of the body, from event 58 on. -/
theorem run_part26 {Q}  (h : At A B K c g₀ R 60 ⊢ Q ⟨⟩) :
    At A B K c g₀ R 58 ⊢ Run c (k0_part26 m0 h0 m1 h1 m2 h2 m3 h3 m4 h4 oM h5 sM h6 rM h7 cc0_scratch2 cc0_scratch3 ) Q := by
  rw [Gen.k0_part26_eq_skeleton]; unfold Gen.k0_part26_skel
  refine step_back _ _ K c g₀ R 58 (false, 1, 0) (by decide) (by decide) (by decide) ?_
  refine step_back _ _ K c g₀ R 59 (true, 1, 0) (by decide) (by decide) (by decide) ?_
  exact step_ret c _ h

/-- Part 27 of the body, from event 60 on. -/
theorem run_part27 {Q}  (h : At A B K c g₀ R 63 ⊢ Q ⟨⟩) :
    At A B K c g₀ R 60 ⊢ Run c (k0_part27 m0 h0 m1 h1 m2 h2 m3 h3 m4 h4 oM h5 sM h6 rM h7 cc0_scratch2 cc0_scratch3 ) Q := by
  rw [Gen.k0_part27_eq_skeleton]; unfold Gen.k0_part27_skel
  refine step_back _ _ K c g₀ R 60 (false, 2, 0) (by decide) (by decide) (by decide) ?_
  refine step_back _ _ K c g₀ R 61 (true, 2, 0) (by decide) (by decide) (by decide) ?_
  refine step_back _ _ K c g₀ R 62 (false, 3, 0) (by decide) (by decide) (by decide) ?_
  exact step_ret c _ h

/-- Part 28 of the body, from event 63 on. -/
theorem run_part28 {Q}  (h : At A B K c g₀ R 65 ⊢ Q ⟨⟩) :
    At A B K c g₀ R 63 ⊢ Run c (k0_part28 m0 h0 m1 h1 m2 h2 m3 h3 m4 h4 oM h5 sM h6 rM h7 cc0_scratch2 cc0_scratch3 ) Q := by
  rw [Gen.k0_part28_eq_skeleton]; unfold Gen.k0_part28_skel
  refine step_back _ _ K c g₀ R 63 (true, 3, 0) (by decide) (by decide) (by decide) ?_
  refine step_back _ _ K c g₀ R 64 (true, 0, 1) (by decide) (by decide) (by decide) ?_
  exact step_ret c _ h

/-- Part 29 of the body, from event 65 on. -/
theorem run_part29 {Q}  (h : At A B K c g₀ R 68 ⊢ Q ⟨⟩) :
    At A B K c g₀ R 65 ⊢ Run c (k0_part29 m0 h0 m1 h1 m2 h2 m3 h3 m4 h4 oM h5 sM h6 rM h7 cc0_scratch2 cc0_scratch3 ) Q := by
  rw [Gen.k0_part29_eq_skeleton]; unfold Gen.k0_part29_skel
  refine step_back _ _ K c g₀ R 65 (false, 0, 1) (by decide) (by decide) (by decide) ?_
  refine step_back _ _ K c g₀ R 66 (true, 1, 1) (by decide) (by decide) (by decide) ?_
  refine step_back _ _ K c g₀ R 67 (false, 1, 1) (by decide) (by decide) (by decide) ?_
  exact step_ret c _ h

/-- Part 30 of the body, from event 68 on. -/
theorem run_part30 {Q}  (h : At A B K c g₀ R 70 ⊢ Q ⟨⟩) :
    At A B K c g₀ R 68 ⊢ Run c (k0_part30 m0 h0 m1 h1 m2 h2 m3 h3 m4 h4 oM h5 sM h6 rM h7 cc0_scratch2 cc0_scratch3 ) Q := by
  rw [Gen.k0_part30_eq_skeleton]; unfold Gen.k0_part30_skel
  refine step_back _ _ K c g₀ R 68 (true, 2, 1) (by decide) (by decide) (by decide) ?_
  refine step_back _ _ K c g₀ R 69 (false, 2, 1) (by decide) (by decide) (by decide) ?_
  exact step_ret c _ h

end Parts

end Cert.KernelIdeal.Talk
-- ==== Proof.Body.lean ====
/-
  The body of the kernel on one device: it pays both partners' barriers with its receive slots, waits for theirs,
  reads its input and its four shards, runs the exchange, and closes every semaphore it used.
-/
module

public import proofs.«01_k».proof.Proof.Parts
public import Idealize.ShloMosaic.Lib.Ring.FamCut
public import Idealize.ShloMosaic.Lib.ViewIndex

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F] [Named F]

local notation "𝕄" => MT nD τ sig Unit (Elt F) ℕ UU ℕ

/-! ## A buffer and its sixteen slots -/

/-- A slot's place names it. -/
theorem slotOff_inj : ∀ j j' : J, (slotOff j 0 = slotOff j' 0 ∧ slotOff j 1 = slotOff j' 1 ∧ slotOff j 2 = slotOff j' 2) → j = j' := by decide

/-- Different slots share no element. -/
theorem slot_disjoint {j j' : J} (h : j ≠ j') : Disjoint (slotRect j).set (slotRect j').set := by
  rw [Finset.disjoint_left]
  intro y hy hy'
  rw [Rect.mem_set_unit] at hy hy'
  have h0 := hy 0; have h0' := hy' 0; have h1 := hy 1; have h1' := hy' 1; have h2 := hy 2; have h2' := hy' 2
  have hs : S1x1x1x128x512.size 0 = 1 ∧ S1x1x1x128x512.size 1 = 1 ∧ S1x1x1x128x512.size 2 = 1 := by decide
  have e : slotOff j 0 = slotOff j' 0 ∧ slotOff j 1 = slotOff j' 1 ∧ slotOff j 2 = slotOff j' 2 := by omega
  exact h (slotOff_inj j j' e)

abbrev slotSet (b : Memref sig .tc .vmem S4x2x2x128x512 .bf16) (c : Dev nD) (j : J) : Finset (Idx (b.view.loc (c : Thread nD τ))) := (b.access (slotRect j)).set

theorem slotSet_disjoint (b : Memref sig .tc .vmem S4x2x2x128x512 .bf16) (c : Dev nD) : ∀ j j', j ≠ j' → Disjoint (slotSet b c j) (slotSet b c j') :=
  fun j j' h => View.disjoint_slice (slot_disjoint h)

/-- What the slots leave of their buffer. -/
def slotRest (b : Memref sig .tc .vmem S4x2x2x128x512 .bf16) (c : Dev nD) : sProp 𝕄 :=
  iprop(∃ f, b.view.loc (c : Thread nD τ) ↦[Ring.restOf (slotSet b c)]{fullShare} f)
/-- The whole buffer at contents not chosen. -/
def bufAny (b : Memref sig .tc .vmem S4x2x2x128x512 .bf16) (c : Dev nD) : sProp 𝕄 := iprop(∃ f, b.view.loc (c : Thread nD τ) ↦{fullShare} f)

/-- A whole buffer is its sixteen slots and a rest. -/
theorem slots_of (b : Memref sig .tc .vmem S4x2x2x128x512 .bf16) (c : Dev nD) :
    (bufAny b c : sProp 𝕄) ⊢ iprop((bigSep Finset.univ fun j : J => slotAny b c j) ∗ slotRest b c) :=
  Ring.fam_split_ex (slotSet b c) (slotSet_disjoint b c)
/-- And back. -/
theorem slots_join (b : Memref sig .tc .vmem S4x2x2x128x512 .bf16) (c : Dev nD) :
    iprop((bigSep Finset.univ fun j : J => slotAny b c j) ∗ slotRest b c) ⊢ (bufAny b c : sProp 𝕄) := by
  unfold slotRest bufAny
  iintro ⟨H, ⟨%f, Hr⟩⟩
  iapply (Ring.fam_join (slotSet b c) (slotSet_disjoint b c) f)
  isplitl [H]; · iexact H
  iexists f; iexact Hr

/-- A family over the two directions. -/
theorem over_both (Φ : Bool → sProp 𝕄) : bigSep Finset.univ Φ = iprop(Φ false ∗ Φ true) := by
  rw [bigSep_univ_at Φ false, show (Finset.univ : Finset Bool).erase false = {true} by decide, bigSep_singleton]

/-! ## The body -/

section Body

variable (A : Dev nD → FVec F S512x1024 .bf16) (B : Dev nD → FVec F S1024x1024 .bf16)
  (K : GSem nD τ sig → ℕ) (c : Dev nD) (g₀ : OutBuf F) (R : sProp (MT nD τ sig Unit (Elt F) ℕ UU ℕ))
  (m0 : Memref sig .tc .vmem S512x1024 .bf16) (h0 : m0.IsWhole) (m1 : Memref sig .tc .vmem S1024x1024 .bf16) (h1 : m1.IsWhole)
  (m2 : Memref sig .tc .vmem S1024x1024 .bf16) (h2 : m2.IsWhole) (m3 : Memref sig .tc .vmem S1024x1024 .bf16) (h3 : m3.IsWhole)
  (m4 : Memref sig .tc .vmem S1024x1024 .bf16) (h4 : m4.IsWhole) (h5 : oM.IsWhole) (h6 : sM.IsWhole) (h7 : rM.IsWhole)

/-- A program run, then what follows it. -/
theorem step_bind {α β : Type} {P : sProp 𝕄} {p : Prog (TpuEff nD τ sig (Elt F) Λ₀ .tc) α} {k : α → Prog (TpuEff nD τ sig (Elt F) Λ₀ .tc) β}
    {Q : β → sProp 𝕄} (h : P ⊢ Run c p fun a => Run c (k a) Q) : P ⊢ Run c (p >>= k) Q := by
  unfold Run at *; rw [wp_bind]; exact h

/-- The attention rows a device computes from its input and its shards of the three projections. -/
def attn (x : Vec F S512x1024 .bf16) (wq wk wv : Vec F S1024x1024 .bf16) : FVec F S512x1024 .bf16 :=
  Gen.k0_pay14 (Gen.k0_pay3 x wq) (Gen.k0_pay4 x wk) (Gen.k0_pay5 x wv)
    (Gen.k0_pay8 (Gen.k0_pay5 x wv) (Gen.k0_pay6 x wq) (Gen.k0_pay7 x wk))
    (Gen.k0_pay9 (Gen.k0_pay3 x wq) (Gen.k0_pay4 x wk) (Gen.k0_pay5 x wv))
    (Gen.k0_pay10 (Gen.k0_pay3 x wq) (Gen.k0_pay4 x wk) (Gen.k0_pay5 x wv))
    (Gen.k0_pay11 (Gen.k0_pay3 x wq) (Gen.k0_pay4 x wk) (Gen.k0_pay5 x wv))
    (Gen.k0_pay12 (Gen.k0_pay3 x wq)) (Gen.k0_pay13 (Gen.k0_pay4 x wk))

/-- The body from what its first part leaves: the parts in turn, the values they hand on being what they are. -/
theorem run_after {P : sProp 𝕄} {Q} (x : Vec F S512x1024 .bf16) (wq wk wv wo : Vec F S1024x1024 .bf16) (hA : A c = attn x wq wk wv) (hB : B c = Gen.k0_pay2 wo)
    (hP : ∀ {Q' : _ → sProp 𝕄}, (∀ v3 v4 : BitVec 32, At A B K c g₀ R 0 ⊢ Q' ⟨c, v3, v4, Gen.k0_pay2 wo, Gen.k0_pay3 x wq, Gen.k0_pay4 x wk, Gen.k0_pay5 x wv, Gen.k0_pay6 x wq, Gen.k0_pay7 x wk⟩)
      → P ⊢ Run c (k0_part1 m0 h0 m1 h1 m2 h2 m3 h3 m4 h4 oM h5 sM h6 rM h7 cc0_scratch2 cc0_scratch3) Q')
    (h : At A B K c g₀ R 72 ⊢ Q ⟨⟩) :
    P ⊢ Run c (cc0__body m0 h0 m1 h1 m2 h2 m3 h3 m4 h4 oM h5 sM h6 rM h7 cc0_scratch2 cc0_scratch3) Q := by
  rw [Gen.cc0__body_eq_skeleton]; unfold Gen.cc0__body_skel
  refine step_bind c (hP fun v3 v4 => ?_)
  refine step_bind c ?_
  rw [Gen.k0_part2_eq_skeleton]; unfold Gen.k0_part2_skel
  refine step_ret c _ ?_
  refine step_bind c ?_
  rw [Gen.k0_part3_eq_skeleton]; unfold Gen.k0_part3_skel
  refine step_ret c _ ?_
  rw [show Gen.k0_pay15 (Gen.k0_pay3 x wq) (Gen.k0_pay4 x wk) (Gen.k0_pay5 x wv) _ _ _ _ _ _ = quarter (A c) 0 from (congrArg (fun a => quarter a 0) hA).symm,
    show Gen.k0_pay14 (Gen.k0_pay3 x wq) (Gen.k0_pay4 x wk) (Gen.k0_pay5 x wv) _ _ _ _ _ _ = A c from hA.symm, ← hB]
  refine step_bind c (run_part4 A B K c g₀ R m0 h0 m1 h1 m2 h2 m3 h3 m4 h4 h5 h6 h7 _ ?_)
  refine step_bind c (run_part5 A B K c g₀ R m0 h0 m1 h1 m2 h2 m3 h3 m4 h4 h5 h6 h7 _ _ ?_)
  refine step_bind c (run_part6 A B K c g₀ R m0 h0 m1 h1 m2 h2 m3 h3 m4 h4 h5 h6 h7 _ ?_)
  refine step_bind c (run_part7 A B K c g₀ R m0 h0 m1 h1 m2 h2 m3 h3 m4 h4 h5 h6 h7 _ _ ?_)
  refine step_bind c (run_part8 A B K c g₀ R m0 h0 m1 h1 m2 h2 m3 h3 m4 h4 h5 h6 h7 _ fun _ => ?_)
  refine step_bind c (run_part9 A B K c g₀ R m0 h0 m1 h1 m2 h2 m3 h3 m4 h4 h5 h6 h7 _ _ ?_)
  refine step_bind c (run_part10 A B K c g₀ R m0 h0 m1 h1 m2 h2 m3 h3 m4 h4 h5 h6 h7 _ ?_)
  refine step_bind c (run_part11 A B K c g₀ R m0 h0 m1 h1 m2 h2 m3 h3 m4 h4 h5 h6 h7 _ _ ?_)
  refine step_bind c (run_part12 A B K c g₀ R m0 h0 m1 h1 m2 h2 m3 h3 m4 h4 h5 h6 h7 _ ?_)
  refine step_bind c (run_part13 A B K c g₀ R m0 h0 m1 h1 m2 h2 m3 h3 m4 h4 h5 h6 h7 _ ?_)
  refine step_bind c (run_part14 A B K c g₀ R m0 h0 m1 h1 m2 h2 m3 h3 m4 h4 h5 h6 h7 _ ?_)
  refine step_bind c (run_part15 A B K c g₀ R m0 h0 m1 h1 m2 h2 m3 h3 m4 h4 h5 h6 h7 _ ?_)
  refine step_bind c (run_part16 A B K c g₀ R m0 h0 m1 h1 m2 h2 m3 h3 m4 h4 h5 h6 h7 _ _ ?_)
  refine step_bind c (run_part17 A B K c g₀ R m0 h0 m1 h1 m2 h2 m3 h3 m4 h4 h5 h6 h7 _ ?_)
  refine step_bind c (run_part18 A B K c g₀ R m0 h0 m1 h1 m2 h2 m3 h3 m4 h4 h5 h6 h7 _ ?_)
  refine step_bind c (run_part19 A B K c g₀ R m0 h0 m1 h1 m2 h2 m3 h3 m4 h4 h5 h6 h7 _ _ ?_)
  refine step_bind c (run_part20 A B K c g₀ R m0 h0 m1 h1 m2 h2 m3 h3 m4 h4 h5 h6 h7 _ ?_)
  refine step_bind c (run_part21 A B K c g₀ R m0 h0 m1 h1 m2 h2 m3 h3 m4 h4 h5 h6 h7 _ _ ?_)
  refine step_bind c (run_part22 A B K c g₀ R m0 h0 m1 h1 m2 h2 m3 h3 m4 h4 h5 h6 h7 _ ?_)
  refine step_bind c (run_part23 A B K c g₀ R m0 h0 m1 h1 m2 h2 m3 h3 m4 h4 h5 h6 h7 _ _ ?_)
  refine step_bind c (run_part24 A B K c g₀ R m0 h0 m1 h1 m2 h2 m3 h3 m4 h4 h5 h6 h7 _ ?_)
  refine step_bind c (run_part25 A B K c g₀ R m0 h0 m1 h1 m2 h2 m3 h3 m4 h4 h5 h6 h7 ?_)
  refine step_bind c (run_part26 A B K c g₀ R m0 h0 m1 h1 m2 h2 m3 h3 m4 h4 h5 h6 h7 ?_)
  refine step_bind c (run_part27 A B K c g₀ R m0 h0 m1 h1 m2 h2 m3 h3 m4 h4 h5 h6 h7 ?_)
  refine step_bind c (run_part28 A B K c g₀ R m0 h0 m1 h1 m2 h2 m3 h3 m4 h4 h5 h6 h7 ?_)
  refine step_bind c (run_part29 A B K c g₀ R m0 h0 m1 h1 m2 h2 m3 h3 m4 h4 h5 h6 h7 ?_)
  refine step_bind c (run_part30 A B K c g₀ R m0 h0 m1 h1 m2 h2 m3 h3 m4 h4 h5 h6 h7 ?_)
  refine step_back _ _ K c g₀ R 70 (true, 3, 1) (by decide) (by decide) (by decide) ?_
  refine step_back _ _ K c g₀ R 71 (false, 3, 1) (by decide) (by decide) (by decide) ?_
  exact step_ret c _ h

/-- What the device reads: a whole buffer through its memref. -/
abbrev readX (m : Memref sig .tc .vmem S512x1024 .bf16) (f : m.view.ty.Contents (Elt F)) : Vec F S512x1024 .bf16 :=
  (m.access (Rect.unit (s := S512x1024) ![0, 0] S512x1024.size inb_S512x1024_S512x1024_0_0)).read (Elt F) f
abbrev readW (m : Memref sig .tc .vmem S1024x1024 .bf16) (f : m.view.ty.Contents (Elt F)) : Vec F S1024x1024 .bf16 :=
  (m.access (Rect.unit (s := S1024x1024) ![0, 0] S1024x1024.size inb_S1024x1024_S1024x1024_0_0)).read (Elt F) f

section Inputs

variable (f0 : m0.view.ty.Contents (Elt F)) (f1 : m1.view.ty.Contents (Elt F)) (f2 : m2.view.ty.Contents (Elt F))
  (f3 : m3.view.ty.Contents (Elt F)) (f4 : m4.view.ty.Contents (Elt F))

/-- The five buffers the device reads. -/
def ins : sProp 𝕄 :=
  iprop((m0.view.loc (c : Thread nD τ) ↦{fullShare} f0) ∗ (m1.view.loc (c : Thread nD τ) ↦{fullShare} f1) ∗ (m2.view.loc (c : Thread nD τ) ↦{fullShare} f2)
    ∗ (m3.view.loc (c : Thread nD τ) ↦{fullShare} f3) ∗ (m4.view.loc (c : Thread nD τ) ↦{fullShare} f4))

/-- What the device brings to slot `j`: its two slots, the positions on both cells, the tokens it pays with, and the
    credit for what it is sent. -/
def slotKit (j : J) : sProp 𝕄 :=
  iprop((atPos ER (sendCell c j) 0 ∅ 0 ∗ reached ER (sendCell c j) 0) ∗ (atPos ER (recvCell c j) 0 ∅ 0 ∗ reached ER (recvCell c j) 0)
    ∗ dutyTok ER (sendCell c j) 0 false ∗ dutyTok ER (recvCell (payer j.1 c) j) 0 false ∗ cred (tallyAt (recvCell c j) () N))
/-- What it brings to the barrier. -/
def barKit : sProp 𝕄 :=
  iprop(atPos ER (barCell c) 0 ∅ 0 ∗ cred (tallyAt (barCell c) () 2)
    ∗ (reached ER (barCell (payer false c)) 0 ∗ dutyTok ER (barCell (payer false c)) 0 false)
    ∗ (reached ER (barCell (payer true c)) 0 ∗ dutyTok ER (barCell (payer true c)) 0 true))

/-- Everything the device starts with. -/
def entry (W : Waits sig Unit) (G : sProp 𝕄) : sProp 𝕄 :=
  iprop(recs (sent A B) K ∗ barKit c ∗ (bigSep Finset.univ fun j : J => slotKit c j) ∗ bufAny sM c ∗ bufAny rM c ∗ owes (c : Thread nD τ) (O₀ c) W
    ∗ outPts c g₀ ∗ ins c m0 m1 m2 m3 m4 f0 f1 f2 f3 f4 ∗ G)
/-- What lies aside during the exchange. -/
def aside (G : sProp 𝕄) : sProp 𝕄 :=
  iprop(atPos ER (barCell c) 1 ∅ 0 ∗ slotRest sM c ∗ slotRest rM c ∗ ins c m0 m1 m2 m3 m4 f0 f1 f2 f3 f4 ∗ G)

/-- Receive slots, cells open, seen from the partner that writes them. -/
theorem pay_both : (bigSep Finset.univ fun j : J => iprop(slotAny rM c j ∗ reached ER (recvCell c j) 0))
    = (iprop(barPay (F := F) (payer false c) false ∗ barPay (payer true c) true) : sProp 𝕄) := by
  unfold barPay; rw [bigSep_univ_prod, over_both, payer_payer, payer_payer]

/-- The state before the first event, slot by slot and side by side. -/
theorem sends_0 (X : Sent F) : (sends X c 0 : sProp 𝕄) = iprop((bigSep Finset.univ fun j : J => slotAny sM c j)
    ∗ (bigSep Finset.univ fun j : J => atPos ER (sendCell c j) 0 ∅ 0) ∗ (bigSep Finset.univ fun j : J => dutyTok ER (sendCell c j) 0 false)
    ∗ (bigSep Finset.univ fun j : J => dutyTok ER (recvCell (payer j.1 c) j) 0 false) ∗ (bigSep Finset.univ fun j : J => reached ER (sendCell c j) 0)
    ∗ (bigSep Finset.univ fun j : J => iprop(slotAny rM (payer j.1 c) j ∗ reached ER (recvCell (payer j.1 c) j) 0))) := by
  unfold sends
  rw [bigSep_congr (Ψ := fun j => sendRes X c j 0) fun j _ => by rw [show sp 0 j = 0 from rfl]]
  simp only [sendRes_0, sendKit, bigSep_sep']
theorem recvs_0 (X : Sent F) : (recvs X c 0 : sProp 𝕄) = iprop((bigSep Finset.univ fun j : J => atPos ER (recvCell c j) 0 ∅ 0)
    ∗ (bigSep Finset.univ fun j : J => cred (tallyAt (recvCell c j) () N))) := by
  unfold recvs
  rw [bigSep_congr (Ψ := fun j => recvRes X c j 0) fun j _ => by rw [show rp 0 j = 0 from rfl]]
  simp only [recvRes_0, bigSep_sep']

/-- And after the last. -/
theorem sends_72 (X : Sent F) : (sends X c 72 : sProp 𝕄)
    = iprop((bigSep Finset.univ fun j : J => slotAny sM c j) ∗ (bigSep Finset.univ fun j : J => atPos ER (sendCell c j) 1 ∅ 0)) := by
  unfold sends
  rw [bigSep_congr (Ψ := fun j => sendRes X c j 3) fun j _ => by rw [show sp 72 j = 3 by revert j; decide]]
  simp only [sendRes_3, bigSep_sep']
theorem recvs_72 (X : Sent F) : (recvs X c 72 : sProp 𝕄)
    = iprop((bigSep Finset.univ fun j : J => slotHas rM c j (X (payer j.1 c) j)) ∗ (bigSep Finset.univ fun j : J => atPos ER (recvCell c j) 1 ∅ 0)) := by
  unfold recvs
  rw [bigSep_congr (Ψ := fun j => recvRes X c j 1) fun j _ => by rw [show rp 72 j = 1 by revert j; decide]]
  simp only [recvRes_1, bigSep_sep']
/-- Nothing is owed at the end. -/
theorem O_72 : O c 72 = 0 := by unfold O; rw [show T.drop 72 = [] by decide]; rfl

/-- The two devices the body signals. -/
theorem dev1_eq : (⟨k0_dev1 c, k0_dev1_lt c⟩ : Dev nD) = payer false c := by revert c; decide
theorem dev2_eq : (⟨k0_dev2 c, k0_dev2_lt c⟩ : Dev nD) = payer true c := by revert c; decide

/-- The first part: both barriers paid, both partners waited for, the five arrays read. -/
theorem run_part1 (W : Waits sig Unit) (G : sProp 𝕄) {Q}
    (h : ∀ v3 v4 : BitVec 32, At A B K c g₀ (aside c m0 m1 m2 m3 m4 f0 f1 f2 f3 f4 G) 0
      ⊢ Q ⟨c, v3, v4, Gen.k0_pay2 (readW m2 f2), Gen.k0_pay3 (readX m0 f0) (readW m1 f1), Gen.k0_pay4 (readX m0 f0) (readW m3 f3), Gen.k0_pay5 (readX m0 f0) (readW m4 f4), Gen.k0_pay6 (readX m0 f0) (readW m1 f1), Gen.k0_pay7 (readX m0 f0) (readW m3 f3)⟩) :
    entry A B K c g₀ m0 m1 m2 m3 m4 f0 f1 f2 f3 f4 W G
      ⊢ Run c (k0_part1 m0 h0 m1 h1 m2 h2 m3 h3 m4 h4 oM h5 sM h6 rM h7 cc0_scratch2 cc0_scratch3) Q := by
  rw [Gen.k0_part1_eq_skeleton]; unfold Gen.k0_part1_skel
  unfold entry barKit
  iintro ⟨#Hr, ⟨HatB, HcB, ⟨#HrF, HtF⟩, #HrT, HtT⟩, Hslots, Hs, Hv, HO, Hout, Hin, HG⟩
  ihave Hs := (slots_of sM c) $$ Hs
  icases Hs with ⟨Hs, HsR⟩
  ihave Hv := (slots_of rM c) $$ Hv
  icases Hv with ⟨Hv, HvR⟩
  unfold slotKit
  simp only [bigSep_sep']
  icases Hslots with ⟨⟨HatS, HrS⟩, ⟨HatV, #HrV⟩, HtS, HtV, HcV⟩
  ihave Hpay := (Entails.of_eq (pay_both (F := F) c)) $$ [Hv]
  · rw [bigSep_sep']; isplitl [Hv]; · iexact Hv
    iexact HrV
  icases Hpay with ⟨HpF, HpT⟩
  simp only [dev1_eq, dev2_eq]
  iapply (Entails.of_eq (wp_deviceId 𝒱₀ (c : Thread nD τ) none Set.univ).symm)
  iapply (Rounds.wp_signal 𝒱₀ ER (rd (sent A B)) (c : Thread nD τ) none (dst := (payer false c : Thread nD τ)) (sem := barS) (r := 0) (d := false)
      (κ := K (barCell (payer false c))) (by rw [duties_bar]; exact Finset.mem_univ _) (amount_bar (sent A B) (payer false c) false) () (O c 0 + tallyAt (barCell (payer true c)) () 1) rfl) $$ [HO HtF HpF]
  · isplitr; · iapply (recs_bar (sent A B) K (payer false c)); iexact Hr
    isplitl [HO]; · iexact HO
    isplitl [HtF]; · iexact HtF
    isplitl [HpF]; · rw [payload_bar]; iexact HpF
    iexact HrF
  iintro HO
  iapply (Rounds.wp_signal 𝒱₀ ER (rd (sent A B)) (c : Thread nD τ) none (dst := (payer true c : Thread nD τ)) (sem := barS) (r := 0) (d := true)
      (κ := K (barCell (payer true c))) (by rw [duties_bar]; exact Finset.mem_univ _) (amount_bar (sent A B) (payer true c) true) () (O c 0) rfl) $$ [HO HtT HpT]
  · isplitr; · iapply (recs_bar (sent A B) K (payer true c)); iexact Hr
    isplitl [HO]; · iexact HO
    isplitl [HtT]; · iexact HtT
    isplitl [HpT]; · rw [payload_bar]; iexact HpT
    iexact HrT
  iintro HO
  iapply (Rounds.wp_wait_rest_token 𝒱₀ ER (rd (sent A B)) (c : Thread nD τ) none (κ := K (barCell c))
      (wpE_semWait_eq 𝒱₀ (c : Thread nD τ) none Set.univ) (Set.mem_univ _) () (O := O c 0) (W := W) (R := 0) (m := 0) (T := ∅)
      ((Nat.zero_add 2).trans (expect_bar (sent A B) c).symm)) $$ [HcB HO HatB]
  · isplitr; · iapply (recs_bar (sent A B) K c); iexact Hr
    isplitl [HcB]; · iexact HcB
    isplitl [HO]; · iexact HO
    isplitr; · iapply (mayWait c (.reg barS) 0 (by rw [lv_bar]; decide)); iapply (recs_lev (sent A B) K); iexact Hr
    iexact HatB
  iintro ⟨HO, HatB, -, Hpay⟩
  ihave Hpay := (Entails.of_eq (rest_bar (sent A B) c)) $$ Hpay
  unfold ins
  icases Hin with ⟨H0, H1, H2, H3, H4⟩
  iapply (wp_load_rect 𝒱₀ (c : Thread nD τ) none Set.univ (m := m0) (r := Rect.unit (s := S512x1024) ![0, 0] S512x1024.size inb_S512x1024_S512x1024_0_0) (Finset.subset_univ _)) $$ H0
  iintro H0
  iapply (wp_load_rect 𝒱₀ (c : Thread nD τ) none Set.univ (m := m1) (r := Rect.unit (s := S1024x1024) ![0, 0] S1024x1024.size inb_S1024x1024_S1024x1024_0_0) (Finset.subset_univ _)) $$ H1
  iintro H1
  iapply (wp_load_rect 𝒱₀ (c : Thread nD τ) none Set.univ (m := m3) (r := Rect.unit (s := S1024x1024) ![0, 0] S1024x1024.size inb_S1024x1024_S1024x1024_0_0) (Finset.subset_univ _)) $$ H3
  iintro H3
  iapply (wp_load_rect 𝒱₀ (c : Thread nD τ) none Set.univ (m := m4) (r := Rect.unit (s := S1024x1024) ![0, 0] S1024x1024.size inb_S1024x1024_S1024x1024_0_0) (Finset.subset_univ _)) $$ H4
  iintro H4
  iapply (wp_load_rect 𝒱₀ (c : Thread nD τ) none Set.univ (m := m2) (r := Rect.unit (s := S1024x1024) ![0, 0] S1024x1024.size inb_S1024x1024_S1024x1024_0_0) (Finset.subset_univ _)) $$ H2
  iintro H2
  iapply (step_ret c _ (h _ _))
  unfold At St aside ins owing
  rw [sends_0, recvs_0]
  isplitr; · iexact Hr
  isplitl [Hs HatS HtS HtV HrS Hpay]
  · isplitl [Hs]; · iexact Hs
    isplitl [HatS]; · iexact HatS
    isplitl [HtS]; · iexact HtS
    isplitl [HtV]; · iexact HtV
    isplitl [HrS] <;> iassumption
  isplitl [HatV HcV]; · isplitl [HatV] <;> iassumption
  isplitl [HO]; · iexists _; iexact HO
  isplitl [Hout]; · iexact Hout
  isplitl [HatB]; · iexact HatB
  isplitl [HsR]; · iexact HsR
  isplitl [HvR]; · iexact HvR
  isplitl [H0 H1 H2 H3 H4]
  · isplitl [H0]; · iexact H0
    isplitl [H1]; · iexact H1
    isplitl [H2]; · iexact H2
    isplitl [H3] <;> iassumption
  iexact HG

/-- Every cell closed, every buffer whole again, nothing owed. -/
def exit : sProp 𝕄 :=
  iprop(semVal (barCell c) 0 ∗ ((bigSep Finset.univ fun j : J => semVal (sendCell c j) 0) ∗ (bigSep Finset.univ fun j : J => semVal (recvCell c j) 0))
    ∗ (bufAny sM c ∗ bufAny rM c) ∗ ins c m0 m1 m2 m3 m4 f0 f1 f2 f3 f4 ∗ outPts c (outAt (block A B c) g₀ 72)
    ∗ ∃ W, owes (c : Thread nD τ) (0 : CellTallies nD τ sig Unit) W)

/-- A cell whose round is over gives its counter back at zero. -/
theorem close (X : Sent F) (g : GSem nD τ sig) : iprop(cellInv ER (rd X) (K g) g ∗ atPos ER g 1 ∅ 0) ⊢ (|={Set.univ}=> semVal g 0 : sProp 𝕄) :=
  Rounds.cell_close ER (rd X) (Set.mem_univ (K g)) id (duties_later X g)

/-- A family of cells closed at once. -/
theorem close_all (X : Sent F) (g : J → GSem nD τ sig) (h : ∀ j, recs X K ⊢ cellInv ER (rd X) (K (g j)) (g j)) :
    iprop(recs X K ∗ bigSep Finset.univ fun j : J => atPos ER (g j) 1 ∅ 0) ⊢ (|={Set.univ}=> bigSep Finset.univ fun j : J => semVal (g j) 0 : sProp 𝕄) := by
  refine (bigSep_with_persistent (Ψ := fun j => iprop(|={Set.univ}=> semVal (g j) 0)) fun j _ => ?_).trans (bigSep_fupd _ _)
  exact (sep_mono_left (h j)).trans (close K X (g j))

/-- Slots with known contents are slots. -/
theorem slots_any (X : Sent F) : (bigSep Finset.univ fun j : J => slotHas rM c j (X (payer j.1 c) j)) ⊢ (bigSep Finset.univ fun j : J => slotAny rM c j : sProp 𝕄) :=
  bigSep_mono fun j _ => slotHas_any rM c j (X (payer j.1 c) j)

/-- The whole body: from the entry to the exit. -/
theorem body_run (hA : A c = attn (readX m0 f0) (readW m1 f1) (readW m3 f3) (readW m4 f4)) (hB : B c = Gen.k0_pay2 (readW m2 f2))
    (W : Waits sig Unit) (Q : PUnit → sProp 𝕄) :
    entry A B K c g₀ m0 m1 m2 m3 m4 f0 f1 f2 f3 f4 W iprop(exit A B c g₀ m0 m1 m2 m3 m4 f0 f1 f2 f3 f4 -∗ Q ⟨⟩)
      ⊢ Run c (cc0__body m0 h0 m1 h1 m2 h2 m3 h3 m4 h4 oM h5 sM h6 rM h7 cc0_scratch2 cc0_scratch3) Q := by
  refine (run_after A B K c g₀ (aside c m0 m1 m2 m3 m4 f0 f1 f2 f3 f4 iprop(exit A B c g₀ m0 m1 m2 m3 m4 f0 f1 f2 f3 f4 -∗ Q ⟨⟩)) m0 h0 m1 h1 m2 h2 m3 h3 m4 h4 h5 h6 h7
    (Q := fun x => iprop(|={Set.univ}=> Q x)) _ _ _ _ _ hA hB
    (fun h => run_part1 A B K c g₀ m0 h0 m1 h1 m2 h2 m3 h3 m4 h4 h5 h6 h7 f0 f1 f2 f3 f4 W _ h) ?_).trans (wp_fupd _ _ _ _ _)
  unfold At St aside owing
  rw [sends_72, recvs_72, O_72]
  iintro ⟨#Hr, ⟨Hs, HatS⟩, ⟨Hv, HatV⟩, ⟨%W', HO⟩, Hout, HatB, HsR, HvR, Hin, HG⟩
  imod (close K (sent A B) (barCell c)) $$ [HatB] with Hb
  · isplitr; · iapply (recs_bar (sent A B) K c); iexact Hr
    iexact HatB
  imod (close_all K (sent A B) (sendCell c) (recs_send (sent A B) K c)) $$ [HatS] with HS
  · isplitr; · iexact Hr
    iexact HatS
  imod (close_all K (sent A B) (recvCell c) (recs_recv (sent A B) K c)) $$ [HatV] with HV
  · isplitr; · iexact Hr
    iexact HatV
  imodintro
  iapply HG
  unfold exit
  isplitl [Hb]; · iexact Hb
  isplitl [HS HV]; · isplitl [HS] <;> iassumption
  isplitl [Hs HsR Hv HvR]
  · isplitl [Hs HsR]
    · iapply (slots_join sM c); isplitl [Hs] <;> iassumption
    iapply (slots_join rM c)
    isplitl [Hv]; · iapply (slots_any c (sent A B)); iexact Hv
    iexact HvR
  isplitl [Hin]; · iexact Hin
  isplitl [Hout]; · iexact Hout
  iexists _; iexact HO

end Inputs

end Body
end Cert.KernelIdeal.Talk
-- ==== Proof.Result.lean ====
/-
  What the eight stores leave in the result buffer: they cover it, so its earlier contents do not matter.
-/
module

public import proofs.«01_k».proof.Proof.Body

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F] [Named F]

local notation "𝕄" => MT nD τ sig Unit (Elt F) ℕ UU ℕ

/-- The block an element of the result lies in, and its place there. -/
def blockIx (x : S512x1024.Idx) : Fin 4 × Fin 2 :=
  (⟨(x 0).val / 128, Nat.div_lt_of_lt_mul (x 0).isLt⟩, ⟨(x 1).val / 512, Nat.div_lt_of_lt_mul (x 1).isLt⟩)
def inBlock (x : S512x1024.Idx) : S128x512.Idx := fun a => ⟨(x a).val % S128x512.size a, Nat.mod_lt _ (by revert a; decide)⟩

/-- The result buffer assembled from its blocks. -/
def result (Y : Blocks F) : OutBuf F := fun x => Y (blockIx x) (inBlock x)

/-- An element is its place in its block. -/
theorem emb_inBlock (x : S512x1024.Idx) : (oM.access (outRect (blockIx x))).emb (inBlock x) = x := by
  funext a
  refine Fin.ext ?_
  show outOff (blockIx x) a + 1 * ((x a).val % S128x512.size a) = (x a).val
  rw [Nat.one_mul]
  revert a
  refine fun | 0 => ?_ | 1 => ?_
  · exact Nat.div_add_mod (x 0).val 128
  · exact Nat.div_add_mod (x 1).val 512

/-- An element of a block's rectangle has that block. -/
theorem blockIx_emb (i : Fin 4 × Fin 2) (y : S128x512.Idx) : blockIx ((oM.access (outRect i)).emb y) = i := by
  have h0 : (y 0).val < 128 := (y 0).isLt
  have h1 : (y 1).val < 512 := (y 1).isLt
  refine Prod.ext (Fin.ext ?_) (Fin.ext ?_)
  · show (128 * i.1.val + 1 * (y 0).val) / 128 = i.1.val
    omega
  · show (512 * i.2.val + 1 * (y 1).val) / 512 = i.2.val
    omega

/-- A run of events leaves an element at its block if the block was stored, and as it was otherwise. -/
theorem foldl_outStep (Y : Blocks F) (x : S512x1024.Idx) (l : List Ev) (g : OutBuf F) :
    l.foldl (outStep Y) g x = if Ev.out (blockIx x) ∈ l then result Y x else g x := by
  induction l generalizing g with
  | nil => rfl
  | cons e l ih =>
    rw [List.foldl_cons, ih]
    have hstep : outStep Y g e x = if e = Ev.out (blockIx x) then result Y x else g x := by
      cases e with
      | out i =>
        by_cases hi : i = blockIx x
        · subst hi
          rw [if_pos rfl]
          exact (congrArg (outStep Y g (.out (blockIx x))) (emb_inBlock x).symm).trans
            (View.write_emb_of_mem (v := oM.access (outRect (blockIx x))) g (Y (blockIx x)) (Finset.mem_univ (inBlock x)))
        · rw [if_neg (fun h => hi (Ev.out.inj h))]
          refine View.write_of_not_mem _ _ _ fun hm => hi ?_
          obtain ⟨y, -, rfl⟩ := Finset.mem_map.mp hm
          exact (blockIx_emb i y).symm
      | _ => rfl
    rw [hstep]
    by_cases h1 : e = Ev.out (blockIx x)
    · subst h1; simp
    · by_cases h2 : Ev.out (blockIx x) ∈ l
      · simp [h2]
      · simp [h1, h2, Ne.symm h1]

/-- Every block is stored. -/
theorem out_mem (i : Fin 4 × Fin 2) : Ev.out i ∈ T.take 72 := by revert i; decide

/-- The result buffer at the end. -/
theorem outAt_72 (Y : Blocks F) (g : OutBuf F) : outAt Y g 72 = result Y := by
  funext x
  unfold outAt
  rw [foldl_outStep, if_pos (out_mem _)]

end Cert.KernelIdeal.Talk

end
-- ==== Proof.Region.lean ====
/-
  The one kernel region of the program: what its windows hold, its body obligation, and its record.
-/
module

public import proofs.«01_k».proof.Proof.Result
public import Idealize.ShloMosaic.Lib.Pipeline.RegionTalk

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F] [Named F]

local notation "𝕄" => MT nD τ sig Unit (Elt F) ℕ UU ℕ

variable (m : (ℓ : Loc nD τ sig) → Buf (Elt F) ℓ)

/-! ## What the region holds -/

/-- The memrefs the body reads from. -/
abbrev xM : Memref sig .tc .vmem S512x1024 .bf16 := Memref.whole cc0_stg0_0
abbrev wqM : Memref sig .tc .vmem S1024x1024 .bf16 := Memref.whole cc0_stg1_0
abbrev woM : Memref sig .tc .vmem S1024x1024 .bf16 := Memref.whole cc0_stg2_0
abbrev wkM : Memref sig .tc .vmem S1024x1024 .bf16 := Memref.whole cc0_stg3_0
abbrev wvM : Memref sig .tc .vmem S1024x1024 .bf16 := Memref.whole cc0_stg4_0

/-- The input and the four shards a device's body finds staged. -/
abbrev xIn (c : Dev nD) : xM.view.ty.Contents (Elt F) := Gen.iblk m c 0 Gen.t0_0
abbrev wqIn (c : Dev nD) : wqM.view.ty.Contents (Elt F) := Gen.iblk m c 1 Gen.t0_0
abbrev woIn (c : Dev nD) : woM.view.ty.Contents (Elt F) := Gen.iblk m c 2 Gen.t0_0
abbrev wkIn (c : Dev nD) : wkM.view.ty.Contents (Elt F) := Gen.iblk m c 3 Gen.t0_0
abbrev wvIn (c : Dev nD) : wvM.view.ty.Contents (Elt F) := Gen.iblk m c 4 Gen.t0_0

/-- Each device's attention rows and its shard of the output projection. -/
def rowsOf (c : Dev nD) : FVec F S512x1024 .bf16 := attn (readX xM (xIn m c)) (readW wqM (wqIn m c)) (readW wkM (wkIn m c)) (readW wvM (wvIn m c))
def projOf (c : Dev nD) : FVec F S1024x1024 .bf16 := Gen.k0_pay2 (readW woM (woIn m c))

/-- Each device's result buffer when its body is done. -/
def resultOf (c : Dev nD) : OutBuf F := result (block (rowsOf m) (projOf m) c)

/-- What a device brings to a slot before the slot's own two cells are open. -/
def slotSeed (c : Dev nD) (j : J) : sProp 𝕄 :=
  iprop(dutyTok ER (sendCell c j) 0 false ∗ dutyTok ER (recvCell (payer j.1 c) j) 0 false ∗ cred (tallyAt (recvCell c j) () N))

/-- The invariants of every cell. -/
def invs (X : Sent F) (K : GSem nD τ sig → ℕ) : sProp 𝕄 :=
  iprop((bigSep Finset.univ fun c : Dev nD => cellInv ER (rd X) (K (barCell c)) (barCell c))
    ∗ (bigSep Finset.univ fun p : Dev nD × J => cellInv ER (rd X) (K (sendCell p.1 p.2)) (sendCell p.1 p.2))
    ∗ (bigSep Finset.univ fun p : Dev nD × J => cellInv ER (rd X) (K (recvCell p.1 p.2)) (recvCell p.1 p.2)))

instance invs_persistent (X : Sent F) (K : GSem nD τ sig → ℕ) : BI.Persistent (invs X K) := by unfold invs; infer_instance

/-- What the program's launch keeps for a device's region, and what the region enters its body with. -/
def Tk (c : Dev nD) : sProp 𝕄 :=
  iprop((∃ K, invs (sent (rowsOf m) (projOf m)) K) ∗ barKit c ∗ (bigSep Finset.univ fun j : J => slotSeed c j)
    ∗ (bigSep Finset.univ fun j : J => openTok ER (sendCell c j)) ∗ (bigSep Finset.univ fun j : J => openTok ER (recvCell c j)))
def Xk (c : Dev nD) : sProp 𝕄 :=
  iprop((∃ K, recs (sent (rowsOf m) (projOf m)) K) ∗ barKit c ∗ (bigSep Finset.univ fun j : J => slotKit c j))
def Yk (c : Dev nD) : sProp 𝕄 := semVal (barCell c) 0

/-- The two scratch buffers. -/
def scratch (c : Dev nD) : sProp 𝕄 := iprop(bufAny sM c ∗ bufAny rM c)
/-- The counters of the kernel's own semaphores at zero. -/
def zeros (c : Dev nD) : sProp 𝕄 :=
  iprop((bigSep Finset.univ fun j : J => semVal (sendCell c j) 0) ∗ (bigSep Finset.univ fun j : J => semVal (recvCell c j) 0))

/-- The region's data: the inputs stay, the result is left in the last window; all is owed before the one point and
    nothing after. -/
def dat (c : Dev nD) : Pipeline.Dat τ (Elt F) Unit ℕ UU ℕ cfg0 c where
  A w := Gen.V m c (Pipeline.arrRef spec0 w)
  after := fun
    | 0 => fun t => Gen.iblk m c 0 t | 1 => fun t => Gen.iblk m c 1 t | 2 => fun t => Gen.iblk m c 2 t
    | 3 => fun t => Gen.iblk m c 3 t | 4 => fun t => Gen.iblk m c 4 t | 5 => fun _ => resultOf m c
    | ⟨_ + 6, h⟩ => absurd h (Nat.not_lt.2 (Nat.le_add_left _ _))
  Φ t := if t.val = 0 then iprop(Xk m c ∗ scratch c ∗ ∃ r, prngReg c r) else iprop(Yk c ∗ zeros c ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c := fun _ => dat m

/-! ## The body obligation -/

theorem owed_zero (c : Dev nD) : (dat m c).owed 0 = O₀ c := by
  show (if ((0 : Fin (grid0.N + 1)).val = 0) then O₀ c else 0) = O₀ c
  exact if_pos rfl
theorem owed_first (c : Dev nD) : (dat m c).owed Gen.t0_0.castSucc = O₀ c := by
  show (if (Gen.t0_0.castSucc : Fin (grid0.N + 1)).val = 0 then O₀ c else 0) = O₀ c
  exact if_pos rfl
theorem owed_last (c : Dev nD) : (dat m c).owed (Fin.last _) = 0 := by
  show (if (Fin.last grid0.N).val = 0 then O₀ c else 0) = 0
  rw [Fin.val_last, if_neg (by rw [Gen.N_0]; decide)]

/-- What is owed, as the pipeline states it, and back. -/
theorem owesAt_intro (c : Dev nD) (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound
  rw [h0]
  iintro HO; iexists W; isplitr; · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin
  rw [h0]
  iintro ⟨%W, -, HO⟩; iexists W; iexact HO

theorem before_0 (c : Dev nD) (d) : (dat m c).before 0 Gen.t0_0 d = Gen.iblk m c 0 Gen.t0_0 :=
  ((dat m c).before_in_eq_fetched 0 rfl (fun _ => rfl) (fun _ _ _ => rfl) (fun _ => rfl) _ d).trans rfl
theorem before_1 (c : Dev nD) (d) : (dat m c).before 1 Gen.t0_0 d = Gen.iblk m c 1 Gen.t0_0 :=
  ((dat m c).before_in_eq_fetched 1 rfl (fun _ => rfl) (fun _ _ _ => rfl) (fun _ => rfl) _ d).trans rfl
theorem before_2 (c : Dev nD) (d) : (dat m c).before 2 Gen.t0_0 d = Gen.iblk m c 2 Gen.t0_0 :=
  ((dat m c).before_in_eq_fetched 2 rfl (fun _ => rfl) (fun _ _ _ => rfl) (fun _ => rfl) _ d).trans rfl
theorem before_3 (c : Dev nD) (d) : (dat m c).before 3 Gen.t0_0 d = Gen.iblk m c 3 Gen.t0_0 :=
  ((dat m c).before_in_eq_fetched 3 rfl (fun _ => rfl) (fun _ _ _ => rfl) (fun _ => rfl) _ d).trans rfl
theorem before_4 (c : Dev nD) (d) : (dat m c).before 4 Gen.t0_0 d = Gen.iblk m c 4 Gen.t0_0 :=
  ((dat m c).before_in_eq_fetched 4 rfl (fun _ => rfl) (fun _ _ _ => rfl) (fun _ => rfl) _ d).trans rfl

theorem Phi_first (c : Dev nD) : (dat m c).Φ Gen.t0_0.castSucc = iprop(Xk m c ∗ scratch c ∗ ∃ r, prngReg c r) := rfl
theorem Phi_succ (c : Dev nD) : (dat m c).Φ Gen.t0_0.succ = iprop(Yk c ∗ zeros c ∗ scratch c ∗ ∃ r, prngReg c r) := rfl

/-- Owning a whole staged buffer at named contents. -/
theorem owns_at (c : Dev nD) (b : Ref sig .tc) (f : b.ty.Contents (Elt F)) :
    (owns (c : Thread nD τ) (Memref.whole b) fullShare f : sProp 𝕄) = ((Memref.whole b).view.loc (c : Thread nD τ) ↦{fullShare} f) := owns_whole _ _ _ _

/-- The body at the region's one point: from the entry it is entered with to what it leaves. -/
theorem body_obl (c : Dev nD) : BodyObligation (dat m c) defs₀ 𝒱₀ () Set.univ := fun t => by
  obtain rfl := Gen.fin_N0 t
  rw [Gen.bigSep_W0, Gen.bigSep_W0, Phi_first, Phi_succ]
  show iprop(_ ∗ _ ∗ (∃ d, owns (c : Thread nD τ) xM fullShare ((dat m c).before 0 Gen.t0_0 d)) ∗ (∃ d, owns (c : Thread nD τ) wqM fullShare ((dat m c).before 1 Gen.t0_0 d))
      ∗ (∃ d, owns (c : Thread nD τ) woM fullShare ((dat m c).before 2 Gen.t0_0 d)) ∗ (∃ d, owns (c : Thread nD τ) wkM fullShare ((dat m c).before 3 Gen.t0_0 d))
      ∗ (∃ d, owns (c : Thread nD τ) wvM fullShare ((dat m c).before 4 Gen.t0_0 d)) ∗ (∃ d, owns (c : Thread nD τ) oM fullShare ((dat m c).before 5 Gen.t0_0 d)))
    ⊢ Run c (cc0__body xM (hstage0_0 0) wqM (hstage0_1 0) woM (hstage0_2 0) wkM (hstage0_3 0) wvM (hstage0_4 0) oM (hstage0_5 0)
        sM (Memref.isWhole_whole _) rM (Memref.isWhole_whole _) cc0_scratch2 cc0_scratch3) fun _ =>
      iprop(_ ∗ _ ∗ owns (c : Thread nD τ) xM fullShare (xIn m c) ∗ owns (c : Thread nD τ) wqM fullShare (wqIn m c) ∗ owns (c : Thread nD τ) woM fullShare (woIn m c)
        ∗ owns (c : Thread nD τ) wkM fullShare (wkIn m c) ∗ owns (c : Thread nD τ) wvM fullShare (wvIn m c) ∗ owns (c : Thread nD τ) oM fullShare (resultOf m c))
  simp only [before_0, before_1, before_2, before_3, before_4]
  unfold Xk scratch
  iintro ⟨⟨⟨⟨%K, #Hr⟩, Hbar, Hslots⟩, ⟨Hs, Hv⟩, Hreg⟩, HO, ⟨%d0, H0⟩, ⟨%d1, H1⟩, ⟨%d2, H2⟩, ⟨%d3, H3⟩, ⟨%d4, H4⟩, ⟨%d5, H5⟩⟩
  ihave HO' := (owesAt_elim m c _ (O₀ c) (owed_first m c)) $$ HO
  icases HO' with ⟨%W, HO⟩
  iapply (body_run (rowsOf m) (projOf m) K c ((dat m c).before 5 Gen.t0_0 d5) xM (hstage0_0 0) wqM (hstage0_1 0) woM (hstage0_2 0) wkM (hstage0_3 0) wvM (hstage0_4 0) (hstage0_5 0)
    (Memref.isWhole_whole _) (Memref.isWhole_whole _) (xIn m c) (wqIn m c) (woIn m c) (wkIn m c) (wvIn m c) rfl rfl W _)
  unfold entry ins
  isplitr; · iexact Hr
  isplitl [Hbar]; · iexact Hbar
  isplitl [Hslots]; · iexact Hslots
  isplitl [Hs]; · iexact Hs
  isplitl [Hv]; · iexact Hv
  isplitl [HO]; · iexact HO
  isplitl [H5]; · iapply (Entails.of_eq (owns_at c cc0_stg5_0 _)); iexact H5
  isplitl [H0 H1 H2 H3 H4]
  · isplitl [H0]; · iapply (Entails.of_eq (owns_at c cc0_stg0_0 _)); iexact H0
    isplitl [H1]; · iapply (Entails.of_eq (owns_at c cc0_stg1_0 _)); iexact H1
    isplitl [H2]; · iapply (Entails.of_eq (owns_at c cc0_stg2_0 _)); iexact H2
    isplitl [H3]; · iapply (Entails.of_eq (owns_at c cc0_stg3_0 _)); iexact H3
    iapply (Entails.of_eq (owns_at c cc0_stg4_0 _)); iexact H4
  unfold exit ins
  rw [outAt_72]
  iintro ⟨Hb, Hz, Hbufs, ⟨H0, H1, H2, H3, H4⟩, H5, ⟨%W', HO⟩⟩
  isplitl [Hb Hz Hbufs Hreg]
  · isplitl [Hb]; · unfold Yk; iexact Hb
    isplitl [Hz]; · unfold zeros; iexact Hz
    isplitl [Hbufs]; · iexact Hbufs
    iexact Hreg
  isplitl [HO]; · iapply (owesAt_intro m c Gen.t0_0.succ 0 (owed_last m c) W'); iexact HO
  isplitl [H0]; · iapply (Entails.of_eq (owns_at c cc0_stg0_0 _).symm); iexact H0
  isplitl [H1]; · iapply (Entails.of_eq (owns_at c cc0_stg1_0 _).symm); iexact H1
  isplitl [H2]; · iapply (Entails.of_eq (owns_at c cc0_stg2_0 _).symm); iexact H2
  isplitl [H3]; · iapply (Entails.of_eq (owns_at c cc0_stg3_0 _).symm); iexact H3
  isplitl [H4]; · iapply (Entails.of_eq (owns_at c cc0_stg4_0 _).symm); iexact H4
  iapply (Entails.of_eq (owns_at c cc0_stg5_0 _).symm); unfold resultOf; iexact H5

/-! ## The region's record -/

/-- The semaphores of the kernel's own: a send and a receive semaphore per slot. -/
def osem (k : J ⊕ J) : SemLoc sig := k.elim (fun j => .dma (sendS j)) (fun j => .dma (recvS j))

theorem osem_facts : Pipeline.OwnSemFacts spec0 osem := by decide

theorem ownSems_eq (c : Dev nD) : (Pipeline.ownSems0 osem c : sProp 𝕄) = zeros c := by
  unfold Pipeline.ownSems0 zeros
  rw [bigSep_univ_sum]
  rfl

/-- Two families over the slots, as one family of pairs. -/
theorem pair_up {Φ Ψ : J → sProp 𝕄} : iprop(bigSep Finset.univ Φ ∗ bigSep Finset.univ Ψ) ⊢ bigSep Finset.univ fun j => iprop(Φ j ∗ Ψ j) :=
  Entails.of_eq (bigSep_sep' _ _ _).symm

/-- Opening a family of cells at once. -/
theorem open_all {K : GSem nD τ sig → ℕ} (X : Sent F) (R : sProp 𝕄) [BI.Persistent R] (g : J → GSem nD τ sig)
    (h : ∀ j, R ⊢ cellInv ER (rd X) (K (g j)) (g j)) :
    iprop(R ∗ bigSep Finset.univ fun j : J => iprop(openTok ER (g j) ∗ semVal (g j) 0))
      ⊢ (|={Set.univ}=> bigSep Finset.univ fun j : J => iprop(atPos ER (g j) 0 ∅ 0 ∗ reached ER (g j) 0) : sProp 𝕄) := by
  refine (bigSep_with_persistent (Ψ := fun j => iprop(|={Set.univ}=> (atPos ER (g j) 0 ∅ 0 ∗ reached ER (g j) 0))) fun j _ => ?_).trans (bigSep_fupd _ _)
  exact (sep_mono_left (h j)).trans (Rounds.cell_open ER (rd X) (g := g j) (Set.mem_univ (K (g j))))

theorem region_open (c : Dev nD) : iprop(Tk m c ∗ Pipeline.ownSems0 osem c ∗ levAts L lv) ⊢ (|={Set.univ}=> Xk m c : sProp 𝕄) := by
  rw [ownSems_eq]
  unfold Tk Xk zeros
  iintro ⟨⟨⟨%K, #HI⟩, Hbar, Hseed, HoS, HoV⟩, ⟨HzS, HzV⟩, #Hlev⟩
  ihave #Hr := (show iprop(levAts L lv ∗ invs (sent (rowsOf m) (projOf m)) K) ⊢ recs (sent (rowsOf m) (projOf m)) K from by
    unfold invs recs; exact .rfl) $$ []
  · isplitr; · iexact Hlev
    iexact HI
  imod (open_all (K := K) (sent (rowsOf m) (projOf m)) (recs (sent (rowsOf m) (projOf m)) K) (sendCell c) (recs_send _ K c)) $$ [HoS HzS] with HS
  · isplitr; · iexact Hr
    iapply pair_up; isplitl [HoS] <;> iassumption
  imod (open_all (K := K) (sent (rowsOf m) (projOf m)) (recs (sent (rowsOf m) (projOf m)) K) (recvCell c) (recs_recv _ K c)) $$ [HoV HzV] with HV
  · isplitr; · iexact Hr
    iapply pair_up; isplitl [HoV] <;> iassumption
  imodintro
  isplitr; · iexists K; iexact Hr
  isplitl [Hbar]; · iexact Hbar
  unfold slotKit
  iapply pair_up; isplitl [HS]; · iexact HS
  iapply pair_up; isplitl [HV]; · iexact HV
  unfold slotSeed
  iexact Hseed

theorem plaunch : Pipeline.PLaunchFacts (nD := nD) (τ := τ) (pcfgs (F := F)) 0 where
  cellOf_inj a := by rw [Subsingleton.elim a adm]; exact Gen.cellOf_inj
  win := Gen.winFacts0
  pre := Pipeline.PreFacts.none _
  block_pos := Gen.block_pos0
  arr_whole := Gen.arr_whole0
  stage_whole := Gen.stage_whole0

/-- The unscoped buffers that are no window's array. -/
def others : Finset (DevRef τ sig) := {Proc.devRef .tc main_arg0, Proc.devRef .tc main_v3}

/-- The contents of a device's buffers after the region: the result array is the result. -/
def after (c : Dev nD) : Valuation τ sig (Elt F) := Function.update (Gen.V0 m c) (Proc.devRef .tc main_v2) (resultOf m c)

theorem after_result (c : Dev nD) : after m c (Proc.devRef .tc main_v2) = resultOf m c := Function.update_self ..
theorem after_ne (c : Dev nD) {b : DevRef τ sig} (h : b ≠ Proc.devRef .tc main_v2) : after m c b = Gen.V0 m c b := Function.update_of_ne h ..

theorem held_none (c : Dev nD) (W : Valuation τ sig (Elt F)) : (StableHlo.held (c.tc : Thread nD τ) ∅ W : sProp 𝕄) = BI.emp := bigSep_empty

theorem scratch_eq (c : Dev nD) : (Pipeline.scopedRest (Ix := Unit) (Name := ℕ) (U := UU) (Lvl := ℕ) (Val := Elt F) spec0 c : sProp 𝕄) = scratch c :=
  Gen.scopedRest0_eq c

theorem region_in (c : Dev nD) : iprop(Pipeline.scopedRest (Pipeline.pin (pcfgs (F := F)) adm 0).spec c ∗ (∃ r, prngReg c r)
    ∗ StableHlo.held (c.tc : Thread nD τ) ∅ (Gen.V0 m c) ∗ Xk m c) ⊢ (pdats m 0 c).Φ 0 := by
  rw [show (pdats m 0 c).Φ 0 = iprop(Xk m c ∗ scratch c ∗ ∃ r, prngReg c r) from rfl,
    show (Pipeline.scopedRest (Pipeline.pin (pcfgs (F := F)) adm 0).spec c : sProp 𝕄) = scratch c from scratch_eq c]
  iintro ⟨Hs, Hp, -, HX⟩
  isplitl [HX]; · iexact HX
  isplitl [Hs] <;> iassumption

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (after m c) ∗ Pipeline.ownSems0 osem c ∗ Yk c) := by
  rw [show (pdats m 0 c).Φ (Fin.last _) = iprop(Yk c ∗ zeros c ∗ scratch c ∗ ∃ r, prngReg c r) from rfl,
    show (Pipeline.scopedRest (Pipeline.pin (pcfgs (F := F)) adm 0).spec c : sProp 𝕄) = scratch c from scratch_eq c, ownSems_eq, held_none]
  iintro ⟨Hb, Hz, Hs, Hp⟩
  isplitl [Hs]; · iexact Hs
  isplitl [Hp]; · iexact Hp
  isplitr; · iempintro
  isplitl [Hz] <;> iassumption

/-- What is owed while the region runs is owed above the staging cells' level. -/
theorem region_cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos h with ⟨j, rfl⟩ | ⟨d, rfl⟩
    · exact ⟨by rw [L_tc]; exact Finset.mem_singleton_self _, by rw [lv_recv]; unfold lvSlot; omega⟩
    · exact ⟨by rw [L_tc]; exact Finset.mem_singleton_self _, by rw [lv_bar]; exact Nat.one_pos⟩
  · exact absurd h (Nat.lt_irrefl 0)

/-- The arrays at the end: only the result's has changed, and it holds what the body left. -/
theorem arr_end (c : Dev nD) (w : Fin 6) : (dat m c).arrAt w cfg0.N = after m c (Proc.devRef .tc (Pipeline.arrRef spec0 w)) := by
  revert w
  refine fun | 0 => ?_ | 1 => ?_ | 2 => ?_ | 3 => ?_ | 4 => ?_ | 5 => ?_ | ⟨_ + 6, h⟩ => absurd h (Nat.not_lt.2 (Nat.le_add_left _ _))
  · exact ((dat m c).arrAt_in 0 rfl _).trans (after_ne m c (b := Proc.devRef .tc main_v1) (by decide)).symm
  · exact ((dat m c).arrAt_in 1 rfl _).trans (after_ne m c (b := Proc.devRef .tc main_arg1) (by decide)).symm
  · exact ((dat m c).arrAt_in 2 rfl _).trans (after_ne m c (b := Proc.devRef .tc main_arg4) (by decide)).symm
  · exact ((dat m c).arrAt_in 3 rfl _).trans (after_ne m c (b := Proc.devRef .tc main_arg2) (by decide)).symm
  · exact ((dat m c).arrAt_in 4 rfl _).trans (after_ne m c (b := Proc.devRef .tc main_arg3) (by decide)).symm
  · rw [show cfg0.N = Gen.t0_0.val + 1 from Gen.N_0, (dat m c).arrAt_succ 5 Gen.t0_0, if_pos (Gen.flush0_5 _)]
    refine Eq.trans ?_ (after_result m c).symm
    exact Memref.write_access_unit_zero_univ (Elt F) main_v2 (off := fun a => 0 * main_v2.ty.shape.size a) (funext fun a => Nat.zero_mul _) _ ((dat m c).arrAt 5 Gen.t0_0.val) (resultOf m c)

theorem share_full (c : Dev nD) (w : Fin (Pipeline.pin (pcfgs (F := F)) adm 0).W) : (pdats (F := F) m 0 c).share w = fullShare := by
  unfold Dat.share
  split <;> rfl

theorem stage_sem : ∀ (w : Fin 6) (s : Fin (spec0 w).nbuf), ((spec0 w).sem s).val < 22 := by decide

/-- A staging cell is at the lowest level. -/
theorem stage_low (c : Dev nD) (w : Fin (Pipeline.pin (pcfgs (F := F)) adm 0).W)
    (s : Fin ((Pipeline.pin (pcfgs (F := F)) adm 0).win w).nbuf) :
    lv ((c : Thread nD τ), .dma (((Pipeline.pin (pcfgs (F := F)) adm 0).win w).sem s)) () ≤ 0 := by
  show (if _ then _ else _) ≤ 0
  exact (if_neg (Nat.not_le.2 (stage_sem w s))).le

set_option backward.isDefEq.respectTransparency.types false in
/-- The region. -/
def reg : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) plaunch rfl (fun c => (body_obl m c).loose)
    (fun _ => 0) O₀ (fun c => (owed_zero m c).trans (zero_add _).symm) (owed_last m) (fun _ => rfl) (share_full m)
    (Gen.V0 m) (after m) (fun c b hb => after_ne m c (by revert b; decide))
    (Tk m) Yk (Xk m) Yk (region_open m) (region_in m) (region_out m)
    (fun c => by iintro H; imodintro; iexact H)
    (fun _ => 0)
    ⟨fun c w s => by rw [L_tc]; exact Finset.mem_singleton_self _, stage_low, fun c t g i h => region_cut m c t g i h⟩
    (fun _ => iprop(emp))
    (fun _ _ => rfl) (arr_end m)

end Cert.KernelIdeal.Talk

end
-- ==== Proof.Launch.lean ====
/-
  The program from launch to end: the host lines around the region, the ghost state dealt out at launch, and the run.
-/
module

public import proofs.«01_k».proof.Proof.Region

@[expose] public section

set_option maxRecDepth 16384

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The host's lines around the region -/

/-- The unscoped buffers. -/
def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The unscoped buffers are the windows' arrays and the other two. -/
theorem bufs_split (c : Dev nD) (W : Valuation τ sig (Elt F)) : (StableHlo.held (c : Thread nD τ) bufs W : sProp 𝕄)
    = iprop(StableHlo.held (c : Thread nD τ) (Pipeline.arrRefs (τ := τ) (pcfgs (F := F) 0).spec) W
      ∗ StableHlo.held (c : Thread nD τ) others W) := by
  unfold StableHlo.held
  rw [show (bufs : Finset (DevRef τ sig)) = Pipeline.arrRefs (τ := τ) spec0 ∪ others from by decide]
  exact bigSep_union (by decide)

/-- The program's argument buffers and its result's, out of the unscoped buffers. -/
theorem bufs_list (c : Dev nD) (W : Valuation τ sig (Elt F)) : (StableHlo.held (c : Thread nD τ) bufs W : sProp 𝕄)
    ⊢ bigSepL [main_arg0, main_arg1, main_arg2, main_arg3, main_arg4, main_v3] fun b : Ref sig .tc =>
      iprop(((c : Thread nD τ).loc b) ↦{fullShare} W (Proc.devRef .tc b)) := by
  unfold StableHlo.held
  refine (bigSep_subset (t := {Proc.devRef .tc main_arg0, Proc.devRef .tc main_arg1, Proc.devRef .tc main_arg2, Proc.devRef .tc main_arg3, Proc.devRef .tc main_arg4, Proc.devRef .tc main_v3}) (by decide)).trans ?_
  rw [bigSep_eq_bigSepL_of_eq [Proc.devRef .tc main_arg0, Proc.devRef .tc main_arg1, Proc.devRef .tc main_arg2, Proc.devRef .tc main_arg3, Proc.devRef .tc main_arg4, Proc.devRef .tc main_v3] (by decide) (by decide)]
  exact BI.Entails.refl _

theorem pre_sub : ∀ op ∈ (Gen.hostOps0 : List (HloOp τ sig (Elt F))), op.bufs ⊆ bufs := fun op h => by
  simp only [Gen.hostOps0, List.mem_singleton] at h; subst h
  show ({Proc.devRef .tc main_arg0, Proc.devRef .tc main_v1} : Finset (DevRef τ sig)) ⊆ bufs; decide
theorem post_sub : ∀ op ∈ (Gen.hostOps1 : List (HloOp τ sig (Elt F))), op.bufs ⊆ bufs := fun op h => by
  simp only [Gen.hostOps1, List.mem_singleton] at h; subst h
  show ({Proc.devRef .tc main_v2, Proc.devRef .tc main_v3} : Finset (DevRef τ sig)) ⊆ bufs; decide

/-- What rides beside the buffers before the region, and after it. -/
def R (c : Dev nD) : sProp 𝕄 := iprop((Tk m c ∗ ∃ r, prngReg c r) ∗ ∃ W, owes (c : Thread nD τ) (O₀ c) W)
def R' (c : Dev nD) : sProp 𝕄 := iprop(semVal (barCell c) 0 ∗ ∃ W, owes (c : Thread nD τ) (0 : CellTallies nD τ sig Unit) W)

/-- A device's buffers at launch, and at the end. -/
def atStart (c : Dev nD) : Valuation τ sig (Elt F) := fun b => m (c, b)
def atEnd (c : Dev nD) : Valuation τ sig (Elt F) := StableHlo.after Gen.hostOps1 (after m c)

def pre : Pipeline.HostSeg (Ix := Unit) (Name := ℕ) (U := UU) (Lvl := ℕ) (pcfgs (F := F)) defs₀ 𝒱₀ L lv :=
  Pipeline.HostSeg.ofOps _ _ _ _ _ bufs Gen.hostOps0 pre_sub (List.forall_iff_forall_mem.mp Gen.hostOps0_fresh) (atStart m) (R m)
def post : Pipeline.HostSeg (Ix := Unit) (Name := ℕ) (U := UU) (Lvl := ℕ) (pcfgs (F := F)) defs₀ 𝒱₀ L lv :=
  Pipeline.HostSeg.ofOps _ _ _ _ _ bufs Gen.hostOps1 post_sub (List.forall_iff_forall_mem.mp Gen.hostOps1_fresh) (after m) R'

/-- The program's parts in order. -/
def segs : List (Pipeline.Seg (pcfgs (F := F)) adm (pdats m) () defs₀ 𝒱₀ L lv) := [.host (pre m), .region (reg m), .host (post m)]

theorem main_eq (c : Dev nD) : main (F := F) c = Pipeline.Seg.run (segs m) :=
  Gen.main_segs adm (pdats m) () 𝒱₀ L lv (pre m) (post m) (reg m) rfl rfl c

theorem pre_reg (c : Dev nD) : (pre m).post c ⊢ (reg m).pre c := by
  show iprop(StableHlo.held (c.tc : Thread nD τ) bufs (Gen.V0 m c) ∗ R m c)
    ⊢ iprop(StableHlo.held (c.tc : Thread nD τ) (Pipeline.arrRefs (τ := τ) (pcfgs (F := F) 0).spec) (Gen.V0 m c) ∗ (∃ r, prngReg c r)
    ∗ (StableHlo.held (c.tc : Thread nD τ) others (Gen.V0 m c) ∗ emp) ∗ Tk m c ∗ ∃ Wd, owes (c : Thread nD τ) (0 + O₀ c) Wd)
  rw [bufs_split, zero_add]
  unfold R
  iintro ⟨⟨Ha, Ho⟩, ⟨HT, Hp⟩, HO⟩
  isplitl [Ha]; · iexact Ha
  isplitl [Hp]; · iexact Hp
  isplitl [Ho]
  · isplitl [Ho]; · iexact Ho
    iempintro
  isplitl [HT] <;> iassumption

theorem reg_post (c : Dev nD) : (reg m).post c ⊢ (post m).pre c := by
  show iprop(StableHlo.held (c.tc : Thread nD τ) (Pipeline.arrRefs (τ := τ) (pcfgs (F := F) 0).spec) (after m c) ∗ (∃ r, prngReg c r)
    ∗ (StableHlo.held (c.tc : Thread nD τ) others (after m c) ∗ emp) ∗ Yk c ∗ ∃ Wd, owes (c : Thread nD τ) (0 : CellTallies nD τ sig Unit) Wd)
    ⊢ iprop(StableHlo.held (c.tc : Thread nD τ) bufs (after m c) ∗ R' c)
  rw [bufs_split]
  unfold R' Yk
  iintro ⟨Ha, -, ⟨Ho, -⟩, Hb, HO⟩
  isplitl [Ha Ho]
  · isplitl [Ha] <;> iassumption
  isplitl [Hb] <;> iassumption

/-! ## The launch -/

theorem osem_inj : Function.Injective osem := by decide
theorem osem_ne_bar : ∀ k : J ⊕ J, osem k ≠ .reg barS := by decide

def barEmb : Dev nD ↪ GSem nD τ sig := ⟨fun c => barCell c, fun _ _ h => congrArg (fun g : GSem nD τ sig => g.1.1) h⟩
def ownEmb : Dev nD × (J ⊕ J) ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, and the copies' cells. -/
abbrev barCells : Finset (GSem nD τ sig) := Finset.univ.map barEmb
abbrev ownCells : Finset (GSem nD τ sig) := Finset.univ.map ownEmb

/-- The duties of a cell's only round: two at a barrier, one at a copy's semaphore. -/
abbrev Duty : Type := Bool ⊕ (J ⊕ J)
def dutyAt (k : Duty) : SemLoc sig × Bool := k.elim (fun d => (.reg barS, d)) (fun j => (osem j, false))
theorem dutyAt_inj : Function.Injective dutyAt := by decide
def allToks : Finset (GSem nD τ sig × ℕ × Bool) :=
  Finset.univ.map ⟨fun ck : Dev nD × Duty => (((ck.1 : Thread nD τ), (dutyAt ck.2).1), 0, (dutyAt ck.2).2), fun _ _ h =>
    Prod.ext (congrArg (fun t : GSem nD τ sig × ℕ × Bool => t.1.1.1) h)
      (dutyAt_inj (Prod.ext (congrArg (fun t : GSem nD τ sig × ℕ × Bool => t.1.2) h) (congrArg (fun t : GSem nD τ sig × ℕ × Bool => t.2.2) h)))⟩

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem pin_inj : Function.Injective (cellOf (nD := nD) (τ := τ) (Pipeline.pin (pcfgs (F := F)) adm)) := by
  rw [Subsingleton.elim adm adm]; exact Gen.cellOf_inj

/-- The ghost state the launch makes. -/
def u₀ : UU :=
  (initOf (Pipeline.cells (Pipeline.pin (pcfgs (F := F)) adm) pin_inj) (Pipeline.launchToks (Pipeline.pin (pcfgs (F := F)) adm) pin_inj),
    launchOf barCells ownCells allToks)

/-- A resource held by device `0` alone. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp
def G : Dev nD → sProp 𝕄 := atZero (BI.own (ER (launchOf barCells ownCells allToks)))

/-- What every device may consult: all the invariants under one map of names, and every barrier cell's first round reached. -/
def records (K : GSem nD τ sig → ℕ) : sProp 𝕄 :=
  iprop(invs (sent (rowsOf m) (projOf m)) K ∗ bigSep Finset.univ fun c : Dev nD => reached ER (barCell c) 0)
instance records_persistent (K : GSem nD τ sig → ℕ) : BI.Persistent (records m K) := by unfold records; infer_instance

/-- The invariants of the launch's cells, sorted by kind. -/
theorem invs_intro (X : Sent F) (K : GSem nD τ sig → ℕ) :
    (bigSep (barCells ∪ ownCells) fun g => (cellInv ER (rd X) (K g) g : sProp 𝕄)) ⊢ invs X K := by
  rw [bigSep_union cells_disjoint, bigSep_map, bigSep_map, bigSep_univ_prod]
  unfold invs
  rw [bigSep_univ_prod (fun p : Dev nD × J => (cellInv ER (rd X) (K (sendCell p.1 p.2)) (sendCell p.1 p.2) : sProp 𝕄)),
    bigSep_univ_prod (fun p : Dev nD × J => (cellInv ER (rd X) (K (recvCell p.1 p.2)) (recvCell p.1 p.2) : sProp 𝕄)),
    ← bigSep_sep']
  refine sep_mono_right (Entails.of_eq (bigSep_congr fun c _ => ?_))
  rw [bigSep_univ_sum]
  rfl

/-- The tokens of the duties a device pays: its partners' at their barriers, its copies' at both ends. -/
def payToks (c : Dev nD) : sProp 𝕄 :=
  iprop((bigSep Finset.univ fun d : Bool => dutyTok ER (barCell (payer d c)) 0 d)
    ∗ (bigSep Finset.univ fun j : J => dutyTok ER (sendCell c j) 0 false)
    ∗ (bigSep Finset.univ fun j : J => dutyTok ER (recvCell (payer j.1 c) j) 0 false))

/-- A double family, in the other order. -/
theorem turn {A I : Type} [Fintype A] [Fintype I] [DecidableEq A] [DecidableEq I] (Φ : A → I → sProp 𝕄) :
    (bigSep Finset.univ fun a : A => bigSep Finset.univ fun i : I => Φ a i) = bigSep Finset.univ fun i : I => bigSep Finset.univ fun a : A => Φ a i := by
  rw [← bigSep_univ_prod (fun p : A × I => Φ p.1 p.2), ← bigSep_univ_prod (fun p : I × A => Φ p.2 p.1)]
  exact bigSep_univ_equiv (Equiv.prodComm I A) fun p : A × I => Φ p.1 p.2

/-- A family over the devices and some others, each handed to the partner. -/
theorem hand {I : Type} [Fintype I] [DecidableEq I] (d : I → Bool) (Φ : Dev nD → I → sProp 𝕄) :
    (bigSep Finset.univ fun c : Dev nD => bigSep Finset.univ fun i : I => Φ c i)
      = bigSep Finset.univ fun c : Dev nD => bigSep Finset.univ fun i : I => Φ (payer (d i) c) i := by
  rw [turn Φ, turn fun (c : Dev nD) (i : I) => Φ (payer (d i) c) i]
  exact bigSep_congr fun i _ => bigSep_univ_equiv (swap (d i)) fun c => Φ c i

/-- The launch's tokens, each with the device that pays it. -/
theorem toks_dealt : bigSep allToks (fun x => (dutyTok ER x.1 x.2.1 x.2.2 : sProp 𝕄)) = bigSep Finset.univ fun c : Dev nD => payToks c := by
  unfold allToks payToks
  rw [bigSep_map, bigSep_univ_prod, bigSep_sep', bigSep_sep',
    ← hand (fun d : Bool => d) (fun c d => (dutyTok ER (barCell c) 0 d : sProp 𝕄)),
    ← hand (fun j : J => j.1) (fun c j => (dutyTok ER (recvCell c j) 0 false : sProp 𝕄)), ← bigSep_sep', ← bigSep_sep']
  refine bigSep_congr fun c _ => ?_
  rw [bigSep_univ_sum, bigSep_univ_sum]
  rfl

/-- What stays with a device: its barrier's position, its rights to open, its tokens. -/
def linear (c : Dev nD) : sProp 𝕄 :=
  iprop(atPos ER (barCell c) 0 ∅ 0 ∗ ((bigSep Finset.univ fun j : J => openTok ER (sendCell c j)) ∗ (bigSep Finset.univ fun j : J => openTok ER (recvCell c j)))
    ∗ payToks c)

/-- The credits of a device: two units of its barrier, and each of its receive semaphores' copies. -/
def credits (c : Dev nD) : sProp 𝕄 :=
  iprop(cred (tallyAt (barCell c) () 2) ∗ bigSep Finset.univ fun j : J => cred (tallyAt (recvCell c j) () N))

theorem ghost_intro (K : GSem nD τ sig → ℕ) (c : Dev nD) : iprop(records m K ∗ (linear c ∗ credits c)) ⊢ Tk m c := by
  unfold records linear credits Tk barKit payToks
  rw [over_both]
  iintro ⟨⟨#HI, #HR⟩, ⟨Hat, ⟨HoS, HoV⟩, ⟨Htf, Htt⟩, HtS, HtV⟩, HcB, HcV⟩
  isplitr; · iexists K; iexact HI
  isplitl [Hat HcB Htf Htt]
  · isplitl [Hat]; · iexact Hat
    isplitl [HcB]; · iexact HcB
    isplitl [Htf]
    · isplitr; · iapply (inv_of (fun c : Dev nD => reached ER (barCell c) 0) (payer false c)); iexact HR
      iexact Htf
    isplitr; · iapply (inv_of (fun c : Dev nD => reached ER (barCell c) 0) (payer true c)); iexact HR
    iexact Htt
  isplitl [HtS HtV HcV]
  · unfold slotSeed
    iapply pair_up; isplitl [HtS]; · iexact HtS
    iapply pair_up; isplitl [HtV]; · iexact HtV
    iexact HcV
  isplitl [HoS] <;> iassumption

/-! ### The launch credit -/

theorem payer_inj (d : Bool) {c c' : Dev nD} (h : c = payer d c') : c' = payer d c := by rw [h, payer_payer]

/-- A list of events owes a receive semaphore one copy's units for each send of its slot by the partner. -/
theorem dues_recv (l : List Ev) (d c : Dev nD) (j : J) :
    (l.map (due d)).sum (recvCell c j) () = if d = payer j.1 c then N * l.count (.send j) else 0 := by
  induction l with
  | nil => simp
  | cons e l ih =>
    rw [List.map_cons, List.sum_cons, Pi.add_apply, Finsupp.add_apply, ih]
    cases e with
    | send i =>
      show tallyAt (recvCell (payer i.1 d) i) () N (recvCell c j) () + _ = _
      rw [tallyAt_apply]
      by_cases hij : i = j
      · subst hij
        rw [List.count_cons_self]
        by_cases h : d = payer i.1 c
        · subst h
          rw [payer_payer, if_pos ⟨rfl, rfl⟩, if_pos rfl, if_pos rfl, Nat.mul_succ, Nat.add_comm]
        · rw [if_neg (fun h' => h (payer_inj i.1 (congrArg (fun g : GSem nD τ sig => g.1.1) h'.1))), if_neg h, if_neg h]
      · rw [List.count_cons_of_ne (fun h => hij (Ev.send.inj h)), if_neg, Nat.zero_add]
        rintro ⟨h', -⟩
        have h2 : recvS j = recvS i := SemLoc.dma.inj (congrArg Prod.snd h')
        have h3 := congrArg Fin.val h2
        rw [recvS_val, recvS_val] at h3
        exact hij (slotNo_inj (by omega))
    | _ => rw [List.count_cons_of_ne (by simp)]; exact Nat.zero_add _

theorem dues_bar (l : List Ev) (d c : Dev nD) : (l.map (due d)).sum (barCell c) () = 0 := by
  induction l with
  | nil => rfl
  | cons e l ih =>
    rw [List.map_cons, List.sum_cons, Pi.add_apply, Finsupp.add_apply, ih, Nat.add_zero]
    cases e with
    | send i =>
      show tallyAt (recvCell (payer i.1 d) i) () N (barCell c) () = 0
      rw [tallyAt_apply, if_neg (fun h => nomatch (congrArg Prod.snd h.1 : SemLoc.reg barS = .dma (recvS i)))]
    | _ => rfl

theorem sends_once : ∀ j : J, T.count (.send j) = 1 := by decide

theorem bar_due (d c : Dev nD) (e : Bool) : (tallyAt (barCell (payer e d)) () 1 : CellTallies nD τ sig Unit) (barCell c) () = if d = payer e c then 1 else 0 := by
  rw [tallyAt_apply]
  by_cases h : d = payer e c
  · subst h; rw [payer_payer, if_pos ⟨rfl, rfl⟩, if_pos rfl]
  · rw [if_neg (fun h' => h (payer_inj e (congrArg (fun g : GSem nD τ sig => g.1.1) h'.1))), if_neg h]

theorem owed_recv (d c : Dev nD) (j : J) : O₀ d (recvCell c j) () = if d = payer j.1 c then N else 0 := by
  have hb (e : Bool) : (tallyAt (barCell (payer e d)) () 1 : CellTallies nD τ sig Unit) (recvCell c j) () = 0 := by
    rw [tallyAt_apply, if_neg (fun h => nomatch (congrArg Prod.snd h.1 : SemLoc.dma (recvS j) = .reg barS))]
  unfold O₀ O
  rw [Pi.add_apply, Finsupp.add_apply, Pi.add_apply, Finsupp.add_apply, hb, hb, add_zero, add_zero, List.drop_zero, dues_recv, sends_once, Nat.mul_one]

theorem owed_bar (d c : Dev nD) : O₀ d (barCell c) () = (if d = payer true c then 1 else 0) + (if d = payer false c then 1 else 0) := by
  unfold O₀ O
  rw [Pi.add_apply, Finsupp.add_apply, Pi.add_apply, Finsupp.add_apply, dues_bar, bar_due, bar_due, zero_add]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ _ fun _ => 1, Finset.sum_ite_eq' Finset.univ _ fun _ => 1,
    if_pos (Finset.mem_univ _), if_pos (Finset.mem_univ _)]

theorem launch_recv (c : Dev nD) (j : J) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ _ fun _ => N, if_pos (Finset.mem_univ _)]

def recvEmb : J ↪ SemLoc sig := ⟨fun j => .dma (recvS j), fun i j h => Sum.inr.inj (osem_inj (a₁ := .inr i) (a₂ := .inr j) h)⟩

theorem creds (c : Dev nD) : (Pipeline.launchCred O₀ c : sProp 𝕄) ⊢ credits c := by
  unfold Pipeline.launchCred credits
  rw [bigSep_univ_at _ (SemLoc.reg barS), launch_bar]
  refine sep_mono_right ((bigSep_subset (t := Finset.univ.map recvEmb) fun sm h => ?_).trans ?_)
  · obtain ⟨j, -, rfl⟩ := Finset.mem_map.mp h
    exact Finset.mem_erase.mpr ⟨fun h => (nomatch (h : SemLoc.dma (recvS j) = .reg barS)), Finset.mem_univ _⟩
  · rw [bigSep_map]
    change Idealize.SL.BI.Entails (bigSep Finset.univ fun j : J => (cred (tallyOn (recvCell c j) (launchCredit (Pipeline.owing O₀) 0 (recvCell c j))) : sProp 𝕄)) _
    rw [bigSep_congr (Ψ := fun j : J => (cred (tallyAt (recvCell c j) () N) : sProp 𝕄)) fun j _ => congrArg cred (launch_recv c j)]
    exact BI.Entails.refl _

/-! ### The run -/

/-- What of a device's launch holdings is not ghost state. -/
def bundle (c : Dev nD) : sProp 𝕄 :=
  iprop(StableHlo.held (c : Thread nD τ) bufs (atStart m c) ∗ credits c ∗ owes (c : Thread nD τ) (O₀ c) ∅ ∗ ∃ r, prngReg c r)

theorem start_intro (K : GSem nD τ sig → ℕ) (c : Dev nD) : iprop(records m K ∗ (linear c ∗ bundle m c)) ⊢ (pre m).pre c := by
  show _ ⊢ iprop(StableHlo.held (c : Thread nD τ) bufs (atStart m c) ∗ R m c)
  unfold bundle R
  iintro ⟨#HR, Hl, Hh, Hc, HO, Hp⟩
  isplitl [Hh]; · iexact Hh
  isplitr [HO]
  · isplitr [Hp]
    · iapply (ghost_intro m K c)
      isplitr; · iexact HR
      isplitl [Hl] <;> iassumption
    iexact Hp
  iexists ∅; iexact HO

/-- The launch step: the barrier counters become live cells, the copies' cells are made asleep, and all is dealt out. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (pre m).pre : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (atStart m c) from unscopedBufs_held c (atStart m c),
      unscopedSems0_eq]
    unfold bundle
    iintro ⟨Hh, Hus, HO, Hcr, Hp, HG⟩
    isplitl [Hh HO Hcr Hp]
    · isplitl [Hh]; · iexact Hh
      isplitl [Hcr]; · iapply (creds (F := F) c) $$ Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hopen : bigSep ownCells (fun g => (openTok ER g : sProp 𝕄))
      ⊢ bigSep Finset.univ (fun c : Dev nD => iprop((bigSep Finset.univ fun j : J => openTok ER (sendCell c j)) ∗ (bigSep Finset.univ fun j : J => openTok ER (recvCell c j)))) :=
    Entails.of_eq (by
      rw [bigSep_map, bigSep_univ_prod]
      exact bigSep_congr fun c _ => bigSep_univ_sum (fun k : J ⊕ J => (openTok ER ((c : Thread nD τ), osem k) : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ iprop((bigSep Finset.univ fun c : Dev nD => bundle m c) ∗ (bigSep Finset.univ fun c : Dev nD => semVal (barCell c) 0) ∗ bigSep Finset.univ (G (F := F))) from by
    refine (bigSep_mono fun c _ => hcore c).trans ?_
    rw [bigSep_sep', bigSep_sep']
    exact BI.Entails.refl _) $$ H
  icases H' with ⟨HB, Hv, HG⟩
  ihave Hu := (show bigSep Finset.univ (G (F := F)) ⊢ BI.own (ER (launchOf barCells ownCells allToks)) from
    Entails.of_eq (bigSep_atZero (F := F) (BI.own (ER (launchOf barCells ownCells allToks))))) $$ HG
  imod (Rounds.fund_launch ER (rd (sent (rowsOf m) (projOf m))) cells_disjoint (fun g _ h => h) allToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(linear c ∗ bundle m c)) fun c _ => start_intro m K c)
  isplitr
  · unfold records
    isplitr; · iapply (invs_intro (sent (rowsOf m) (projOf m)) K) $$ Hinv
    iapply hre $$ Hr
  iapply (Entails.of_eq (bigSep_sep' _ _ _).symm)
  isplitr [HB]
  · unfold linear
    iapply (Entails.of_eq (bigSep_sep' _ _ _).symm); isplitl [Hat]; · iapply hat $$ Hat
    iapply (Entails.of_eq (bigSep_sep' _ _ _).symm); isplitl [Hopen]; · iapply hopen $$ Hopen
    iapply (Entails.of_eq (toks_dealt (F := F))) $$ Htok
  · iexact HB

theorem unscoped_eq : ∀ sm : SemLoc sig, sm.isScoped .tc = false → sm = .reg barS := by decide

/-- No host line writes an argument, and neither does the region. -/
theorem atEnd_arg (c : Dev nD) (b : Ref sig .tc) (h3 : b ≠ main_v3) (h2 : b ≠ main_v2) (h1 : b ≠ main_v1) :
    atEnd m c (Proc.devRef .tc b) = m ((c : Thread nD τ).loc b) := by
  unfold atEnd
  rw [StableHlo.after_cons, StableHlo.after_nil, StableHlo.reshape_result_ne (h := h3), after_ne m c (StableHlo.devRef_ne_of_ne h2)]
  show StableHlo.after Gen.hostOps0 _ _ = _
  rw [StableHlo.after_cons, StableHlo.after_nil, StableHlo.reshape_result_ne (h := h1)]

/-- The result the program returns on a device: the region's, reshaped. -/
def returned (c : Dev nD) : FVec F S1x512x1024 .f32 := atEnd m c (Proc.devRef .tc main_v3)

/-- How a run ends: the arguments unchanged, the result `returned`, every semaphore counter at zero. -/
def Ends (s : MemSt nD τ sig (Elt F)) : Prop :=
  (∀ c : Dev nD, (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4))
    ∧ s.mem ((c : Thread nD τ).loc main_v3) = returned m c) ∧ s.sem = fun _ => 0

/-- What one device's holdings at the end say of the final state. -/
def DeviceEnds (c : Dev nD) (s : MemSt nD τ sig (Elt F)) : Prop :=
  (∀ b ∈ [main_arg0, main_arg1, main_arg2, main_arg3, main_arg4, main_v3], s.mem ((c : Thread nD τ).loc b) = atEnd m c (Proc.devRef .tc b))
    ∧ s.sem (barCell c) = 0

theorem read_all (c : Dev nD) (W : Valuation τ sig (Elt F)) (s' : Phys nD τ sig (Elt F)) (l : List (Ref sig .tc)) :
    iprop((bigSepL l fun b : Ref sig .tc => iprop(((c : Thread nD τ).loc b) ↦{fullShare} W (Proc.devRef .tc b))) ∗ SI s')
      ⊢ (iprop(⌜∀ b ∈ l, s'.mem.mem ((c : Thread nD τ).loc b) = W (Proc.devRef .tc b)⌝ ∗ SI s') : sProp 𝕄) := by
  induction l with
  | nil =>
    iintro ⟨-, HSI⟩
    isplitr
    · ipureintro; intro b hb; exact absurd hb List.not_mem_nil
    iexact HSI
  | cons b l ih =>
    rw [show (bigSepL (b :: l) fun b : Ref sig .tc => (iprop(((c : Thread nD τ).loc b) ↦{fullShare} W (Proc.devRef .tc b)) : sProp 𝕄))
      = iprop((((c : Thread nD τ).loc b) ↦{fullShare} W (Proc.devRef .tc b)) ∗ bigSepL l fun b : Ref sig .tc => iprop(((c : Thread nD τ).loc b) ↦{fullShare} W (Proc.devRef .tc b))) from bigSepL_cons _ _ _]
    iintro ⟨⟨Hb, Hl⟩, HSI⟩
    icombine HSI Hb gives %hb
    ihave H := ih $$ [Hl HSI]
    · isplitl [Hl] <;> iassumption
    icases H with ⟨%hl, HSI⟩
    isplitr
    · ipureintro; intro b' hb'
      rcases List.mem_cons.mp hb' with rfl | h
      · exact Buf.eq_of_forall_mem_univ hb
      · exact hl b' h
    iexact HSI

theorem ends_intro (s : MemSt nD τ sig (Elt F)) (h : ∀ c : Dev nD, DeviceEnds m c s) (hs : s.sem = fun _ => 0) : Ends m s := by
  refine ⟨fun c => ⟨⟨?_, ?_, ?_, ?_, ?_⟩, (h c).1 _ (by simp)⟩, hs⟩ <;>
    exact ((h c).1 _ (by simp)).trans (atEnd_arg m c _ (by decide) (by decide) (by decide))

theorem device_ends (c : Dev nD) (s' : Phys nD τ sig (Elt F)) :
    iprop((StableHlo.held (c : Thread nD τ) bufs (atEnd m c) ∗ semVal (barCell c) 0) ∗ SI s')
      ⊢ (|={Set.univ}=> iprop(⌜DeviceEnds m c s'.mem⌝ ∗ SI s') : sProp 𝕄) := by
  iintro ⟨⟨Hh, Hb0⟩, HSI⟩
  icombine HSI Hb0 gives %hb
  ihave Hl := (bufs_list c (atEnd m c)) $$ Hh
  ihave H := (read_all c (atEnd m c) s' _) $$ [Hl HSI]
  · isplitl [Hl] <;> iassumption
  icases H with ⟨%hl, HSI⟩
  imodintro
  isplitr
  · ipureintro; exact ⟨hl, by simpa using hb⟩
  iexact HSI

set_option backward.isDefEq.respectTransparency.types false in
/-- THE RUN: from any memory with zero counters every weakly fair execution on the four devices terminates, and ends as
    `Ends` says. -/
theorem run_main : θ_run defs (onTc (τ := τ) (main (F := F))) ⟨m, fun _ => 0, ρ⟩ (fun r => Ends m r.2) :=
  Pipeline.θ_run_regions_kit_sems (pcfgs (F := F)) adm (pdats m) () pin_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_atZero]; iexact HX)
    (T₀ := (pre m).pre) (Tₙ := fun c => iprop(StableHlo.held (c : Thread nD τ) bufs (atEnd m c) ∗ semVal (barCell c) 0))
    (hch := by
      refine ⟨fun c => .rfl, fun c => pre_reg m c, fun c => reg_post m c, fun c => ?_⟩
      show iprop(StableHlo.held (c : Thread nD τ) bufs (atEnd m c) ∗ R' c) ⊢ _
      unfold R'
      iintro ⟨Hh, Hb0, HO⟩
      isplitr [HO]
      · isplitl [Hh] <;> iassumption
      iexact HO)
    (hinit := init m ρ)
    (QY := DeviceEnds m)
    (hfin := device_ends m)
    (hQ := fun s h hs => ends_intro m s h (sem_eq_zero hs fun c sm hsm => by
      obtain rfl := unscoped_eq sm hsm
      exact (h c).2))

end Cert.KernelIdeal.Talk

end
-- ==== Proof.Frames.lean ====
/-
  The frame claims: the kernel as it stands, its ideal form, and the reference all run to the end from any memory, leave their
  arguments unchanged and every semaphore counter at zero.
-/
module

public import proofs.«01_k».proof.Defs
public import proofs.«01_k».proof.Proof.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

set_option maxRecDepth 16384

noncomputable section

namespace Cert.Frames

open Idealize.ShloMosaic Idealize.ShloMosaic.TcCoe Idealize.SL.Sem

/-- At the bit formats a named constant is its bits, as the kernel has it. -/
local instance bitsNamed : Named Bits where
  named _ _ {_} b := FloatOps.ofBits _ b

set_option maxHeartbeats 4000000 in
theorem main_same : Cert.KernelIdeal.main (F := Bits) = Cert.Kernel.main (F := Bits) := rfl

set_option maxHeartbeats 4000000 in
theorem body_same : Cert.KernelIdeal.cc0__body (F := Bits) = Cert.Kernel.cc0__body (F := Bits) := rfl

set_option maxHeartbeats 4000000 in
/-- The ideal form's program, run on bits, is the kernel's. -/
theorem defs_same : Cert.KernelIdeal.defs (F := Bits) = Cert.Kernel.defs (F := Bits) := by
  have h : Cert.KernelIdeal.defs₀ (F := Bits) = Cert.Kernel.defs₀ (F := Bits) := by
    unfold Cert.KernelIdeal.defs₀ Cert.Kernel.defs₀
    refine congrArg Defs.onTc (funext fun l => ?_)
    match l with
    | ⟨0, _⟩ => exact funext fun p => by rfl
    | ⟨_ + 1, h⟩ => exact absurd h (Nat.not_lt.2 (Nat.le_add_left _ _))
  unfold Cert.KernelIdeal.defs Cert.Kernel.defs
  exact congrArg (Pipeline.defs Cert.Kernel.pcfgs) h

/-- The kernel's frame. -/
theorem kernel : Cert.quiescent_Kernel := fun m ρ _ => by
  have h := Cert.KernelIdeal.Talk.run_main (F := Bits) m ρ
  rw [defs_same, main_same] at h
  exact (θ_run Cert.Kernel.defs _ _).mono (fun _ h => ⟨fun c => (h.1 c).1, h.2⟩) h

/-- The ideal form's frame. -/
theorem kernelIdeal : Cert.quiescent_KernelIdeal := fun m ρ _ =>
  (θ_run Cert.KernelIdeal.defs _ _).mono (fun _ h => ⟨fun c => (h.1 c).1, h.2⟩) (Cert.KernelIdeal.Talk.run_main (F := Ideal) m ρ)

/-- The reference's frame: it has no semaphore. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal form differs from the kernel in the one named constant. -/
theorem preserves : Cert.preserves_Kernel_KernelIdeal :=
  IdealRules.named_const.statement Cert.KernelIdeal.κ "scale" .bf16 0x3DB5#16 _ rfl

end Cert.Frames

end
-- ==== Proof.Heads.lean ====
/-
  The attention rows of one device over the extended reals, read at an index.

  A device holds eight heads of 128 columns. A head's row is the sum of the value rows weighted by the exponentials of
  the scores, divided by the sum of those exponentials; the rows of the eight heads stand side by side.
-/
module

public import proofs.«01_k».proof.Proof.Body
public import Idealize.ShloMosaic.Lib.Pointwise
public import Idealize.ShloMosaic.PureOps.Ideal.Laws

@[expose] public section

set_option maxRecDepth 16384

noncomputable section

namespace Cert.KernelIdeal.Talk

open Idealize.ShloMosaic
open Cert.KernelIdeal.Facts₀ Cert.KernelIdeal.Facts

section
variable {F : FTy → Type} [FloatOps F] [Named F]

/-- The 128 columns of a head. -/
def slab (a : FVec F S512x1024 .bf16) : Fin 8 → FVec F S512x128 .bf16
  | 0 => extractStridedSlice S512x128 ![0, 0] a slices_S512x1024_o0_0_S512x128
  | 1 => extractStridedSlice S512x128 ![0, 128] a slices_S512x1024_o0_128_S512x128
  | 2 => extractStridedSlice S512x128 ![0, 256] a slices_S512x1024_o0_256_S512x128
  | 3 => extractStridedSlice S512x128 ![0, 384] a slices_S512x1024_o0_384_S512x128
  | 4 => extractStridedSlice S512x128 ![0, 512] a slices_S512x1024_o0_512_S512x128
  | 5 => extractStridedSlice S512x128 ![0, 640] a slices_S512x1024_o0_640_S512x128
  | 6 => extractStridedSlice S512x128 ![0, 768] a slices_S512x1024_o0_768_S512x128
  | 7 => extractStridedSlice S512x128 ![0, 896] a slices_S512x1024_o0_896_S512x128

/-- The exponentials of a head's scores. -/
def weigh (q k : FVec F S512x128 .bf16) : FVec F S512x512 .f32 :=
  exp (matmul dot_S512x128_S512x128_S512x512_1_1_0_0_n_n none q k (constant S512x512 .f32 0x00000000#32))

/-- A head's rows from its weights and its values. -/
def mix (p : FVec F S512x512 .f32) (v : FVec F S512x128 .bf16) : FVec F S512x128 .bf16 :=
  truncf .bf16 (divf
    (matmul dot_S512x512_S512x128_S512x128_1_0_0_1_n_n none (truncf .bf16 p bitsLt_bf16_f32) v (constant S512x128 .f32 0x00000000#32))
    (broadcastTo S512x128 (shapeCast S512x1 (multiReduction .add [1] S512 p 0x00000000#32 reduces_S512x512_S512 (.inl rfl) rfl)
      shapeCasts_S512_S512x1) broadcasts_S512x1_S512x128)) bitsLt_bf16_f32

/-- Head `h` of a device. -/
def head (q k v : FVec F S512x1024 .bf16) (h : Fin 8) : FVec F S512x128 .bf16 := mix (weigh (slab q h) (slab k h)) (slab v h)

/-- The attention rows are the heads side by side. -/
theorem attn_eq (x : Vec F S512x1024 .bf16) (wq wk wv : Vec F S1024x1024 .bf16) :
    attn x wq wk wv =
      let f := head (Gen.k0_pay3 x wq) (Gen.k0_pay4 x wk) (Gen.k0_pay5 x wv)
      concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩]
        concatenates_S512x128_S512x128_S512x128_S512x128_S512x128_S512x128_S512x128_S512x128_S512x1024_d1 := rfl

end

/-- Column `e` of head `h`. -/
abbrev col (h : Fin 8) (e : Fin 128) : Fin 1024 := ⟨128 * h.val + e.val, by omega⟩

theorem slab_at (a : FVec Ideal S512x1024 .bf16) (h : Fin 8) (r : Fin 512) (e : Fin 128) : slab a h (ix2 r e) = a (ix2 r (col h e)) := by
  fin_cases h <;> pointwise [slab] <;> exact congrArg (fun i => a (ix2 r i)) (Fin.ext (by simp))

theorem weigh_at (q k : FVec Ideal S512x128 .bf16) (r t : Fin 512) :
    weigh q k (ix2 r t) = Ideal.exp (∑ d : Fin 128, q (ix2 r d) * k (ix2 t d)) := by
  pointwise [weigh]

theorem mix_at (p : FVec Ideal S512x512 .f32) (v : FVec Ideal S512x128 .bf16) (r : Fin 512) (e : Fin 128) :
    mix p v (ix2 r e) = Ideal.div (∑ t : Fin 512, p (ix2 r t) * v (ix2 t e)) (∑ t : Fin 512, p (ix2 r t)) := by
  pointwise [mix]

/-- A projection of the input, the input first scaled. -/
theorem pay3_at (x : Vec Ideal S512x1024 .bf16) (w : Vec Ideal S1024x1024 .bf16) (r : Fin 512) (l : Fin 1024) :
    Gen.k0_pay3 (F := Ideal) x w (ix2 r l) = ∑ i : Fin 1024, (x (ix2 r i) * (((Real.sqrt 128)⁻¹ : ℝ) : EReal)) * w (ix2 i l) := by
  pointwise [Gen.k0_pay3, Gen.k0_pay1]
  rfl

theorem pay4_at (x : Vec Ideal S512x1024 .bf16) (w : Vec Ideal S1024x1024 .bf16) (r : Fin 512) (l : Fin 1024) :
    Gen.k0_pay4 (F := Ideal) x w (ix2 r l) = ∑ i : Fin 1024, x (ix2 r i) * w (ix2 i l) := by
  pointwise [Gen.k0_pay4, Gen.k0_pay1]

theorem pay5_at (x : Vec Ideal S512x1024 .bf16) (w : Vec Ideal S1024x1024 .bf16) (r : Fin 512) (l : Fin 1024) :
    Gen.k0_pay5 (F := Ideal) x w (ix2 r l) = ∑ i : Fin 1024, x (ix2 r i) * w (ix2 i l) := by
  pointwise [Gen.k0_pay5, Gen.k0_pay1]

set_option maxHeartbeats 2000000 in
/-- The attention rows at column `e` of head `h`. -/
theorem attn_head (x : Vec Ideal S512x1024 .bf16) (wq wk wv : Vec Ideal S1024x1024 .bf16) (r : Fin 512) (h : Fin 8) (e : Fin 128) :
    attn (F := Ideal) x wq wk wv (ix2 r (col h e)) = head (Gen.k0_pay3 x wq) (Gen.k0_pay4 x wk) (Gen.k0_pay5 x wv) h (ix2 r e) := by
  rw [attn_eq]
  generalize head (Gen.k0_pay3 x wq) (Gen.k0_pay4 x wk) (Gen.k0_pay5 x wv) = f
  have he := e.isLt
  fin_cases h <;> pointwise <;> split_ifs <;> first | omega | exact congrArg (fun i => f _ (ix2 r i)) (Fin.ext (by dsimp only; omega))

end Cert.KernelIdeal.Talk

end
-- ==== Proof.Summed.lean ====
/-
  The result of the exchange over the extended reals: whatever the device, an element of the result buffer is the sum
  over the four devices of their rows times their shard of the output projection.
-/
module

public import proofs.«01_k».proof.Proof.Result
public import proofs.«01_k».proof.Proof.Heads

@[expose] public section

set_option maxRecDepth 16384

noncomputable section

namespace Cert.KernelIdeal.Talk

open Idealize.ShloMosaic
open Cert.KernelIdeal.Facts₀ Cert.KernelIdeal.Facts

/-- Row `y` of quarter `k`, and column `z` of half `h`. -/
abbrev rowAt (k : Fin 4) (y : Fin 128) : Fin 512 := ⟨128 * k.val + y.val, by omega⟩
abbrev colAt (h : Fin 2) (z : Fin 512) : Fin 1024 := ⟨512 * h.val + z.val, by omega⟩

theorem quarter_at (a : FVec Ideal S512x1024 .bf16) (k : Fin 4) (y : Fin 128) (l : Fin 1024) : quarter a k (ix2 y l) = a (ix2 (rowAt k y) l) := by
  fin_cases k <;> pointwise [quarter] <;> exact congrArg (fun i => a (ix2 i l)) (Fin.ext (by simp))

theorem halfOf_at (p : FVec Ideal S128x1024 .bf16) (h : Fin 2) (y : Fin 128) (z : Fin 512) : halfOf p h (ix2 y z) = p (ix2 y (colAt h z)) := by
  fin_cases h <;> pointwise [halfOf] <;> exact congrArg (fun i => p (ix2 y i)) (Fin.ext (by simp))

theorem product_at (b : FVec Ideal S1024x1024 .bf16) (a : FVec Ideal S128x1024 .bf16) (y : Fin 128) (z : Fin 1024) :
    product b a (ix2 y z) = ∑ l : Fin 1024, a (ix2 y l) * b (ix2 l z) := by
  pointwise [product]

/-- A slot's contents come back as they went in. -/
theorem ofSlot_toSlot (v : FVec Ideal S128x512 .bf16) : ofSlot (toSlot v) = v := by
  funext j
  idx_vars j
  pointwise [ofSlot, toSlot]

theorem plus_at (a : FVec Ideal S128x512 .f32) (v : FVec Ideal S128x512 .bf16) (j : S128x512.Idx) : plus a (toSlot v) j = a j + v j := by
  unfold plus
  rw [ofSlot_toSlot]
  rfl

section
variable (A : Dev nD → FVec Ideal S512x1024 .bf16) (B : Dev nD → FVec Ideal S1024x1024 .bf16)

/-- Device `d`'s contribution to an element of the result. -/
def share (d : Dev nD) (r : Fin 512) (j : Fin 1024) : EReal := ∑ l : Fin 1024, A d (ix2 r l) * B d (ix2 l j)

theorem own_at (c : Dev nD) (i : Fin 4 × Fin 2) (y : Fin 128) (z : Fin 512) :
    own A B c i (ix2 y z) = share A B c (rowAt i.1 y) (colAt i.2 z) := by
  unfold own share
  rw [halfOf_at, product_at]
  exact Finset.sum_congr rfl fun l _ => congrArg (· * _) (quarter_at _ _ _ _)

theorem pair_at (c : Dev nD) (i : Fin 4 × Fin 2) (y : Fin 128) (z : Fin 512) :
    pair A B c i (ix2 y z) = share A B c (rowAt i.1 y) (colAt i.2 z) + share A B (payer (way i.2 0) c) (rowAt i.1 y) (colAt i.2 z) := by
  unfold pair
  rw [plus_at, own_at]
  exact congrArg (· + _) (own_at A B c i y z)

/-- The two exchanges reach every device once. -/
theorem reach (f : Dev nD → EReal) (c : Dev nD) (h : Fin 2) :
    (f c + f (payer (way h 0) c)) + (f (payer (way h 1) c) + f (payer (way h 0) (payer (way h 1) c))) = ∑ d : Dev nD, f d := by
  have hs : ∑ d : Dev nD, f d = f 0 + f 1 + f 2 + f 3 := Fin.sum_univ_four f
  have key : ∀ (c : Dev nD) (h : Fin 2),
      ({c, payer (way h 0) c, payer (way h 1) c, payer (way h 0) (payer (way h 1) c)} : Multiset (Dev nD)) = {0, 1, 2, 3} := by decide
  have hm := congrArg (fun s => (s.map f).sum) (key c h)
  simp only [Multiset.insert_eq_cons, Multiset.map_cons, Multiset.sum_cons, Multiset.map_singleton, Multiset.sum_singleton] at hm
  rw [hs, add_assoc, hm, add_assoc, add_assoc]

theorem block_at (c : Dev nD) (i : Fin 4 × Fin 2) (y : Fin 128) (z : Fin 512) :
    block A B c i (ix2 y z) = ∑ d : Dev nD, share A B d (rowAt i.1 y) (colAt i.2 z) := by
  unfold block
  rw [plus_at, pair_at, ← reach (fun d => share A B d (rowAt i.1 y) (colAt i.2 z)) c i.2]
  exact congrArg (_ + ·) (pair_at A B (payer (way i.2 1) c) i y z)

/-- An element of the result buffer. -/
theorem result_at (c : Dev nD) (r : Fin 512) (j : Fin 1024) :
    @Eq EReal (result (block A B c) (ix2 r j)) (∑ d : Dev nD, share A B d r j) := by
  have hr : r.val % 128 < 128 := Nat.mod_lt _ (by omega)
  have hj : j.val % 512 < 512 := Nat.mod_lt _ (by omega)
  have e : inBlock (ix2 r j) = ix2 (⟨r.val % 128, hr⟩ : Fin 128) (⟨j.val % 512, hj⟩ : Fin 512) :=
    funext fun | 0 => rfl | 1 => rfl
  refine (congrArg (block A B c _) e).trans ((block_at A B c _ _ _).trans ?_)
  refine Finset.sum_congr rfl fun d _ => ?_
  exact congrArg₂ (share A B d) (Fin.ext (Nat.div_add_mod r.val 128)) (Fin.ext (Nat.div_add_mod j.val 512))

end

end Cert.KernelIdeal.Talk

end
-- ==== Proof.Inputs.lean ====
/-
  What a device's region reads, and what the program returns, in terms of the argument arrays.
-/
module

public import proofs.«01_k».proof.Proof.Launch
public import proofs.«01_k».proof.Proof.Summed

@[expose] public section

set_option maxRecDepth 16384

noncomputable section

namespace Cert.KernelIdeal.Talk

open Idealize.ShloMosaic Idealize.ShloMosaic.TcCoe
open Cert.KernelIdeal.Facts₀ Cert.KernelIdeal.Facts

section
variable {F : FTy → Type} [FloatOps F] [Named F]
variable (m : (ℓ : Loc nD τ sig) → Buf (Elt F) ℓ) (c : Dev nD)

theorem origin : (![0, 0] : Fin 2 → ℕ) = fun _ => 0 := funext fun | 0 => rfl | 1 => rfl

/-- Reading a whole buffer gives its contents. -/
theorem readX_whole (f : xM.view.ty.Contents (Elt F)) : readX xM f = f := Memref.read_access_unit_zero (Elt F) cc0_stg0_0 (off := ![0, 0]) origin _ f
theorem readWq (f : wqM.view.ty.Contents (Elt F)) : readW wqM f = f := Memref.read_access_unit_zero (Elt F) cc0_stg1_0 (off := ![0, 0]) origin _ f
theorem readWk (f : wkM.view.ty.Contents (Elt F)) : readW wkM f = f := Memref.read_access_unit_zero (Elt F) cc0_stg3_0 (off := ![0, 0]) origin _ f
theorem readWv (f : wvM.view.ty.Contents (Elt F)) : readW wvM f = f := Memref.read_access_unit_zero (Elt F) cc0_stg4_0 (off := ![0, 0]) origin _ f
theorem readWo (f : woM.view.ty.Contents (Elt F)) : readW woM f = f := Memref.read_access_unit_zero (Elt F) cc0_stg2_0 (off := ![0, 0]) origin _ f

/-- A window's block is its whole array. -/
theorem xIn_eq : xIn m c = Gen.V m c main_v1 :=
  Memref.read_access_unit_zero (Elt F) main_v1 (off := fun a => 0 * S512x1024.size a) (funext fun a => Nat.zero_mul _) _ _
theorem wqIn_eq : wqIn m c = Gen.V m c main_arg1 :=
  Memref.read_access_unit_zero (Elt F) main_arg1 (off := fun a => 0 * S1024x1024.size a) (funext fun a => Nat.zero_mul _) _ _
theorem woIn_eq : woIn m c = Gen.V m c main_arg4 :=
  Memref.read_access_unit_zero (Elt F) main_arg4 (off := fun a => 0 * S1024x1024.size a) (funext fun a => Nat.zero_mul _) _ _
theorem wkIn_eq : wkIn m c = Gen.V m c main_arg2 :=
  Memref.read_access_unit_zero (Elt F) main_arg2 (off := fun a => 0 * S1024x1024.size a) (funext fun a => Nat.zero_mul _) _ _
theorem wvIn_eq : wvIn m c = Gen.V m c main_arg3 :=
  Memref.read_access_unit_zero (Elt F) main_arg3 (off := fun a => 0 * S1024x1024.size a) (funext fun a => Nat.zero_mul _) _ _

/-- Device `c`'s array `b` at launch. -/
abbrev arg (b : Ref sig .tc) : Buf (Elt F) ((c : Thread nD τ).loc b) := m ((c : Thread nD τ).loc b)

/-- Before the region only the array the input is reshaped into is written. -/
theorem start_ne {b : Ref sig .tc} (h : b ≠ main_v1) : Gen.V m c b = arg m c b :=
  StableHlo.reshape_result_ne main_arg0 main_v1 _ _ _ _ (fun b => m (c, b)) h
theorem start_x : (Gen.V m c main_v1 : Vec F S512x1024 .bf16) = shapeCast S512x1024 (arg m c main_arg0 : Vec F S1x512x1024 .bf16) shapeCasts_S1x512x1024_S512x1024 := by
  refine (StableHlo.reshape_result main_arg0 main_v1 rfl shapeCasts_S1x512x1024_S512x1024 (by decide) (by decide) (fun b => m (c, b))).trans ?_
  rfl

/-- The attention rows of a device, from its arguments. -/
theorem rowsOf_eq : rowsOf m c = attn (shapeCast S512x1024 (arg m c main_arg0 : Vec F S1x512x1024 .bf16) shapeCasts_S1x512x1024_S512x1024)
    (arg m c main_arg1) (arg m c main_arg2) (arg m c main_arg3) := by
  unfold rowsOf
  rw [readX_whole, readWq, readWk, readWv, xIn_eq, wqIn_eq, wkIn_eq, wvIn_eq, start_x, start_ne m c (b := main_arg1) (by decide),
    start_ne m c (b := main_arg2) (by decide), start_ne m c (b := main_arg3) (by decide)]

/-- The shard of the output projection a device uses. -/
theorem projOf_eq : projOf m c = Gen.k0_pay2 (arg m c main_arg4) := by
  unfold projOf
  rw [readWo, woIn_eq, start_ne m c (b := main_arg4) (by decide)]

/-- The result is the result buffer, reshaped. -/
theorem returned_eq : returned m c = shapeCast S1x512x1024 (resultOf m c : Vec F S512x1024 .f32) shapeCasts_S512x1024_S1x512x1024 := by
  refine (StableHlo.reshape_result main_v2 main_v3 rfl shapeCasts_S512x1024_S1x512x1024 (by decide) (by decide) (after m c)).trans ?_
  rw [after_result]
  rfl

end

end Cert.KernelIdeal.Talk

end
-- ==== Proof.Reference.lean ====
/-
  The reference's result over the extended reals, read at an index: 32 heads of 128 columns, each a softmax of the
  scores with the row's largest score taken off first, and the output projection of the heads' rows.
-/
module

public import proofs.«01_k».proof.Proof.Gen.ReferenceIdeal.Run
public import Idealize.ShloMosaic.Lib.Pointwise
public import Idealize.ShloMosaic.PureOps.Ideal.Laws

@[expose] public section

set_option maxRecDepth 16384

noncomputable section

namespace Cert.ReferenceIdeal.Plain

open Idealize.ShloMosaic Idealize.ShloMosaic.TcCoe
open Cert.ReferenceIdeal Cert.ReferenceIdeal.Facts₀ Cert.ReferenceIdeal.Facts

section
variable {F : FTy → Type} [FloatOps F]

/-- A projection of the input, cut in heads. -/
def project (x : FVec F S1x512x1024 .bf16) (w : FVec F S1024x4096 .bf16) : FVec F S1x512x32x128 .f32 :=
  shapeCast S1x512x32x128 (Host.dotGeneral dot_S1x512x1024_S1024x4096_S1x512x4096_2_0_01_1_n_n none (extf .f32 x bitsLt_bf16_f32) (extf .f32 w bitsLt_bf16_f32))
    shapeCasts_S1x512x4096_S1x512x32x128

/-- The scores. -/
def scores (q k : FVec F S1x512x32x128 .f32) : FVec F S1x32x512x512 .f32 :=
  Host.divf (Host.dotGeneral dot_S1x512x32x128_S1x512x32x128_S1x32x512x512_3_3_1_1_02_02 none q k)
    (broadcastInDim S1x32x512x512 ![] bcast_S_S1x32x512x512 (Host.sqrt (constant S_ .f32 0x43000000#32)))

/-- Minus infinity, and zero, at every row. -/
def least : FVec F S1x32x512x1 .f32 := broadcastInDim S1x32x512x1 ![] bcast_S_S1x32x512x1 (constant S_ .f32 0xFF800000#32)
def zeroRow : FVec F S1x32x512x1 .f32 := broadcastInDim S1x32x512x1 ![] bcast_S_S1x32x512x1 (constant S_ .f32 0x00000000#32)

/-- Each row's largest score. -/
def top (s : FVec F S1x32x512x512 .f32) : FVec F S1x32x512x1 .f32 :=
  maximumf least (broadcastInDim S1x32x512x1 ![0, 1, 2] bcast_S1x32x512_S1x32x512x1_0_1_2
    (Host.reduce FloatOps.maximumf s (constant S_ .f32 0xFF800000#32) reducesTo_S1x32x512x512_S1x32x512_d3 h_S_))

/-- The factor an earlier sum would be scaled by. -/
def fade (s : FVec F S1x32x512x512 .f32) : FVec F S1x32x512x1 .f32 := Host.exp (subf least (top s))

/-- The weights. -/
def weights (s : FVec F S1x32x512x512 .f32) : FVec F S1x32x512x512 .f32 :=
  Host.exp (subf s (broadcastInDim S1x32x512x512 ![0, 1, 2, 3] bcast_S1x32x512x1_S1x32x512x512_0_1_2_3 (top s)))

/-- Each row's sum of weights. -/
def total (s : FVec F S1x32x512x512 .f32) : FVec F S1x32x512x1 .f32 :=
  addf (mulf zeroRow (fade s)) (broadcastInDim S1x32x512x1 ![0, 1, 2] bcast_S1x32x512_S1x32x512x1_0_1_2
    (Host.reduceAdd (weights s) (constant S_ .f32 0x00000000#32) reducesTo_S1x32x512x512_S1x32x512_d3 h_S_))

/-- A row vector spread over a head's columns. -/
def spread (a : FVec F S1x32x512x1 .f32) : FVec F S1x512x32x128 .f32 :=
  broadcastInDim S1x512x32x128 ![0, 1, 2, 3] bcast_S1x512x32x1_S1x512x32x128_0_1_2_3 (transpose S1x512x32x1 [0, 2, 1, 3] a transposes_S1x32x512x1_S1x512x32x1_0_2_1_3)

/-- The weighted sum of the value rows. -/
def mixed (s : FVec F S1x32x512x512 .f32) (v : FVec F S1x512x32x128 .f32) : FVec F S1x512x32x128 .f32 :=
  addf (mulf (broadcastInDim S1x512x32x128 ![] bcast_S_S1x512x32x128 (constant S_ .f32 0x00000000#32)) (spread (fade s)))
    (transpose S1x512x32x128 [0, 3, 1, 2] (Host.dotGeneral dot_S1x512x32x128_S1x32x512x512_S1x32x128x512_1_3_3_2_02_01 none v (weights s)) transposes_S1x32x128x512_S1x512x32x128_0_3_1_2)

/-- The attention rows, by head. -/
def attended (s : FVec F S1x32x512x512 .f32) (v : FVec F S1x512x32x128 .f32) : FVec F S1x512x32x128 .f32 :=
  Host.divf (mixed s v) (spread (total s))

/-- The whole computation. -/
def whole (x : FVec F S1x512x1024 .bf16) (wq wk wv : FVec F S1024x4096 .bf16) (wo : FVec F S4096x1024 .bf16) : FVec F S1x512x1024 .f32 :=
  Host.dotGeneral dot_S1x512x4096_S4096x1024_S1x512x1024_2_0_01_1_n_n none
    (shapeCast S1x512x4096 (attended (scores (project x wq) (project x wk)) (project x wv)) shapeCasts_S1x512x32x128_S1x512x4096)
    (extf .f32 wo bitsLt_bf16_f32)

theorem result_eq (m : (ℓ : Loc nD τ sig) → Buf (Elt F) ℓ) (c : Dev nD) :
    Value.res_main_v40 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

end

/-- Column `e` of head `h`. -/
abbrev col (h : Fin 32) (e : Fin 128) : Fin 4096 := ⟨128 * h.val + e.val, by omega⟩

theorem project_at (x : FVec Ideal S1x512x1024 .bf16) (w : FVec Ideal S1024x4096 .bf16) (r : Fin 512) (h : Fin 32) (e : Fin 128) :
    project x w (ix4 0 r h e) = ∑ i : Fin 1024, x (ix3 0 r i) * w (ix2 i (col h e)) := by
  pointwise [project]
  exact Finset.sum_congr rfl fun i _ => congrArg (fun l => x (ix3 0 r i) * w (ix2 i l)) (Fin.ext (by simp [Nat.mul_comm]))

theorem scores_at (q k : FVec Ideal S1x512x32x128 .f32) (h : Fin 32) (r t : Fin 512) :
    scores q k (ix4 0 h r t) = Ideal.div (∑ d : Fin 128, q (ix4 0 r h d) * k (ix4 0 t h d)) (Ideal.sqrt (Ideal.ofBits .f32 0x43000000#32)) := by
  pointwise [scores]

theorem bits_neg_infinity : Ideal.ofBits .f32 0xFF800000#32 = ⊥ := by simp [Ideal.ofBits, Ideal.ieee]

/-- The maximum of finitely many reals, at least one, is real. -/
theorem fold_max_real {n : ℕ} (f : Fin (n + 1) → EReal) (hf : ∀ i, ∃ a : ℝ, f i = (a : EReal)) :
    ∃ a : ℝ, Finset.univ.fold max ⊥ f = (a : EReal) := by
  obtain ⟨i, -, hi⟩ := Finset.exists_mem_eq_sup Finset.univ ⟨0, Finset.mem_univ _⟩ f
  obtain ⟨a, ha⟩ := hf i
  exact ⟨a, (show Finset.univ.fold max ⊥ f = f i from hi).trans ha⟩

/-- The largest of a row of real scores is real. -/
theorem rowTop_real (s : FVec Ideal S1x32x512x512 .f32) (hs : ∀ i, ∃ a : ℝ, s i = (a : EReal)) (j : S1x32x512.Idx) :
    ∃ a : ℝ, Host.reduce FloatOps.maximumf s (constant S_ .f32 0xFF800000#32) reducesTo_S1x32x512x512_S1x32x512_d3 h_S_ j = (a : EReal) := by
  rw [Host.reduce_eq_fold_single FloatOps.maximumf s (constant S_ .f32 0xFF800000#32) reducesTo_S1x32x512x512_S1x32x512_d3 (by decide) h_S_ j]
  have hb : (constant S_ .f32 0xFF800000#32 : FVec Ideal S_ .f32) (Shape.Idx.first h_S_) = ⊥ := bits_neg_infinity
  rw [hb]
  exact fold_max_real (n := 511) _ fun i => hs _

theorem least_at (j : S1x32x512x1.Idx) : (least : FVec Ideal S1x32x512x1 .f32) j = ⊥ := bits_neg_infinity

/-- The largest score of a row, as the reference takes it. -/
theorem top_max (M : FVec Ideal S1x32x512 .f32) (L : FVec Ideal S1x32x512x1 .f32) (h : Fin 32) (r : Fin 512) :
    maximumf L (broadcastInDim S1x32x512x1 ![0, 1, 2] bcast_S1x32x512_S1x32x512x1_0_1_2 M) (ix4 0 h r 0) = max (L (ix4 0 h r 0)) (M (ix3 0 h r)) := by
  pointwise

/-- Each row's largest score is real when the scores are. -/
theorem top_real (s : FVec Ideal S1x32x512x512 .f32) (hs : ∀ i, ∃ a : ℝ, s i = (a : EReal)) (h : Fin 32) (r : Fin 512) :
    ∃ a : ℝ, top s (ix4 0 h r 0) = (a : EReal) := by
  obtain ⟨a, ha⟩ := rowTop_real s hs (ix3 0 h r)
  refine ⟨a, (top_max _ least h r).trans ?_⟩
  rw [ha, least_at]
  exact max_eq_right bot_le

theorem weights_at (s : FVec Ideal S1x32x512x512 .f32) (h : Fin 32) (r t : Fin 512) :
    weights s (ix4 0 h r t) = Ideal.exp (s (ix4 0 h r t) - top s (ix4 0 h r 0)) := by
  pointwise [weights]

theorem total_at (s : FVec Ideal S1x32x512x512 .f32) (h : Fin 32) (r : Fin 512) :
    total s (ix4 0 h r 0) = ∑ t : Fin 512, weights s (ix4 0 h r t) := by
  pointwise [total, zeroRow]
  rw [zero_mul, zero_add]

theorem attended_at (s : FVec Ideal S1x32x512x512 .f32) (v : FVec Ideal S1x512x32x128 .f32) (r : Fin 512) (h : Fin 32) (e : Fin 128) :
    attended s v (ix4 0 r h e) = Ideal.div (∑ t : Fin 512, v (ix4 0 t h e) * weights s (ix4 0 h r t)) (∑ t : Fin 512, weights s (ix4 0 h r t)) := by
  pointwise [attended, mixed, spread]
  rw [zero_mul, zero_add, total_at]

theorem whole_at (x : FVec Ideal S1x512x1024 .bf16) (wq wk wv : FVec Ideal S1024x4096 .bf16) (wo : FVec Ideal S4096x1024 .bf16) (r : Fin 512) (j : Fin 1024) :
    whole x wq wk wv wo (ix3 0 r j) = ∑ h : Fin 32, ∑ e : Fin 128,
      attended (scores (project x wq) (project x wk)) (project x wv) (ix4 0 r h e) * wo (ix2 (col h e) j) := by
  unfold whole
  generalize attended (scores (project x wq) (project x wk)) (project x wv) = a
  pointwise
  rw [Fin.sum_univ_tiles 32 128 rfl]
  refine Finset.sum_congr rfl fun h _ => Finset.sum_congr rfl fun e _ => ?_
  have h1 : (h.val * 128 + e.val) / 128 = h.val := by omega
  have h2 : (h.val * 128 + e.val) % 128 = e.val := by omega
  refine congrArg₂ (· * ·) (congrArg₂ (fun i k => a (ix4 0 r i k)) (Fin.ext h1) (Fin.ext h2)) (congrArg (fun l => wo (ix2 l j)) (Fin.ext ?_))
  simp [Nat.mul_comm]

end Cert.ReferenceIdeal.Plain

end
-- ==== Proof.Softmax.lean ====
/-
  The two facts of arithmetic over the extended reals the equation of the kernel and the reference rests on: real
  scores scaled before the products are the scores divided by the root after them, and a softmax is the same with any
  real number taken off its scores.
-/
module

public import Idealize.ShloMosaic.PureOps.Ideal
public import Idealize.ShloMosaic.PureOps.Ideal.Laws

@[expose] public section

noncomputable section

namespace Cert.Softmax

open Idealize.ShloMosaic

/-- A finite sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor distributes over a sum of extended reals. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.2 hc) (EReal.coe_ne_top c), ih]

/-- Sums of products of reals, scaled on one factor. -/
theorem score_coe {n k : ℕ} (κ : ℝ) (a b : Fin n → ℝ) (p q : Fin n → Fin k → ℝ) :
    ∑ d, (∑ i, ((a i : EReal) * (κ : EReal)) * (p i d : EReal)) * (∑ i, (b i : EReal) * (q i d : EReal))
      = ((∑ d, (∑ i, (a i * κ) * p i d) * (∑ i, b i * q i d) : ℝ) : EReal) := by
  simp only [coe_sum, EReal.coe_mul]

/-- The root of 128 as the reference takes it. -/
theorem root : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee]
    rw [← EReal.coe_mul]
    norm_num
  rw [h, Ideal.sqrt_coe, if_neg (by norm_num)]

/-- Scores with the inputs scaled first are the scores divided by the root. -/
theorem score_eq {n k : ℕ} (a b : Fin n → ℝ) (p q : Fin n → Fin k → ℝ) :
    ∑ d, (∑ i, ((a i : EReal) * (((Real.sqrt 128)⁻¹ : ℝ) : EReal)) * (p i d : EReal)) * (∑ i, (b i : EReal) * (q i d : EReal))
      = Ideal.div (∑ d, (∑ i, (a i : EReal) * (p i d : EReal)) * (∑ i, (b i : EReal) * (q i d : EReal))) (Ideal.sqrt (Ideal.ofBits .f32 0x43000000#32)) := by
  have h0 : Real.sqrt 128 ≠ 0 := Real.sqrt_ne_zero'.2 (by norm_num)
  rw [score_coe, root, Ideal.div_coe h0]
  simp only [← EReal.coe_mul, ← coe_sum]
  refine congrArg _ ?_
  rw [Finset.sum_mul, one_div]
  refine Finset.sum_congr rfl fun d _ => ?_
  have e : ∑ i, (a i * (Real.sqrt 128)⁻¹) * p i d = (∑ i, a i * p i d) * (Real.sqrt 128)⁻¹ := by
    rw [Finset.sum_mul]
    exact Finset.sum_congr rfl fun i _ => mul_right_comm _ _ _
  rw [e, mul_right_comm]

/-- A softmax with a real number taken off every score is the softmax of the scores. -/
theorem shift {n : ℕ} (s : Fin (n + 1) → ℝ) (v : Fin (n + 1) → EReal) (a : ℝ) :
    Ideal.div (∑ t, v t * Ideal.exp ((s t : EReal) - (a : EReal))) (∑ t, Ideal.exp ((s t : EReal) - (a : EReal)))
      = Ideal.div (∑ t, Ideal.exp (s t : EReal) * v t) (∑ t, Ideal.exp (s t : EReal)) := by
  have hc : 0 < Real.exp (-a) := Real.exp_pos _
  have hw : ∀ t, Ideal.exp ((s t : EReal) - (a : EReal)) = ((Real.exp (-a) : ℝ) : EReal) * ((Real.exp (s t) : ℝ) : EReal) := fun t => by
    rw [← EReal.coe_sub, Ideal.exp_coe, ← EReal.coe_mul, ← Real.exp_add]
    congr 2
    ring
  have hn : ∑ t, v t * Ideal.exp ((s t : EReal) - (a : EReal)) = ((Real.exp (-a) : ℝ) : EReal) * ∑ t, Ideal.exp (s t : EReal) * v t := by
    rw [mul_sum _ _ hc.le]
    refine Finset.sum_congr rfl fun t _ => ?_
    rw [hw, Ideal.exp_coe, mul_comm (v t), mul_assoc]
  have hpos : 0 < ∑ t, Real.exp (s t) := Finset.sum_pos (fun t _ => Real.exp_pos _) Finset.univ_nonempty
  have hd : ∑ t, Ideal.exp (s t : EReal) = ((∑ t, Real.exp (s t) : ℝ) : EReal) := by rw [coe_sum]; rfl
  have hd' : ∑ t, Ideal.exp ((s t : EReal) - (a : EReal)) = ((Real.exp (-a) * ∑ t, Real.exp (s t) : ℝ) : EReal) := by
    rw [EReal.coe_mul, coe_sum, mul_sum _ _ hc.le]
    exact Finset.sum_congr rfl fun t _ => hw t
  rw [hn, hd, hd', Ideal.div_coe (mul_pos hc hpos).ne', Ideal.div_coe hpos.ne', mul_comm (((Real.exp (-a) : ℝ) : EReal)), mul_assoc, ← EReal.coe_mul]
  congr 2
  field_simp

end Cert.Softmax

end
-- ==== Proof.Equal.lean ====
/-
  The equation of the two results: a device's heads are eight of the reference's 32, and the sum over the devices of
  their heads' contributions is the sum over all the heads. It takes the input and the first two projections to be real.
-/
module

public import proofs.«01_k».proof.Proof.Summed
public import proofs.«01_k».proof.Proof.Reference
public import proofs.«01_k».proof.Proof.Softmax
public import Idealize.ShloMosaic.Lib.LayoutAt

@[expose] public section

set_option maxRecDepth 16384

noncomputable section

namespace Cert.Equal

open Idealize.ShloMosaic
open Cert.KernelIdeal (S512x1024 S1x512x1024 S1024x1024 nD)
open Cert.ReferenceIdeal (S1024x4096 S4096x1024)
open Cert.KernelIdeal.Talk (attn head slab_at weigh_at mix_at pay3_at pay4_at pay5_at attn_head share)
open Cert.ReferenceIdeal.Plain (project scores top attended whole project_at scores_at top_real weights_at attended_at whole_at)

/-- Head `h` of device `c` among all the heads. -/
abbrev headAt (c : Dev nD) (h : Fin 8) : Fin 32 := ⟨c.val * 8 + h.val, by have := c.isLt; have := h.isLt; simp only [nD] at *; omega⟩

/-- A device's shard of a projection, by columns, and of the output projection, by rows. -/
abbrev cols (c : Dev nD) (w : FVec Ideal S1024x4096 .bf16) : FVec Ideal S1024x1024 .bf16 := Layout.block ⟨2, ![1024, 1024]⟩ ⟨2, ![1024, 4096]⟩ 1 4 c w
abbrev rows (c : Dev nD) (w : FVec Ideal S4096x1024 .bf16) : FVec Ideal S1024x1024 .bf16 := Layout.block ⟨2, ![1024, 1024]⟩ ⟨2, ![4096, 1024]⟩ 0 4 c w

theorem cols_at (c : Dev nD) (w : FVec Ideal S1024x4096 .bf16) (i : Fin 1024) (h : Fin 8) (e : Fin 128) :
    cols c w (ix2 i (KernelIdeal.Talk.col h e)) = w (ix2 i (ReferenceIdeal.Plain.col (headAt c h) e)) := by
  show w _ = w _
  refine congrArg w (funext fun a => Fin.ext ?_)
  revert a
  refine fun | 0 => ?_ | 1 => ?_
  · exact (Layout.Tiles.idx_val_of_ne _ _ _ _ (by decide)).trans rfl
  · refine (Layout.Tiles.idx_val_self _ _ _ _ rfl).trans ?_
    show c.val * 1024 + (128 * h.val + e.val) = 128 * (c.val * 8 + h.val) + e.val
    omega

theorem rows_at (c : Dev nD) (w : FVec Ideal S4096x1024 .bf16) (h : Fin 8) (e : Fin 128) (j : Fin 1024) :
    rows c w (ix2 (KernelIdeal.Talk.col h e) j) = w (ix2 (ReferenceIdeal.Plain.col (headAt c h) e) j) := by
  show w _ = w _
  refine congrArg w (funext fun a => Fin.ext ?_)
  revert a
  refine fun | 0 => ?_ | 1 => ?_
  · refine (Layout.Tiles.idx_val_self _ _ _ _ rfl).trans ?_
    show c.val * 1024 + (128 * h.val + e.val) = 128 * (c.val * 8 + h.val) + e.val
    omega
  · exact (Layout.Tiles.idx_val_of_ne _ _ _ _ (by decide)).trans rfl

/-- The input as a device's region reads it. -/
abbrev flat (x : FVec Ideal S1x512x1024 .bf16) : FVec Ideal S512x1024 .bf16 := shapeCast S512x1024 x KernelIdeal.Facts₀.shapeCasts_S1x512x1024_S512x1024

theorem flat_at (x : FVec Ideal S1x512x1024 .bf16) (r : Fin 512) (i : Fin 1024) : flat x (ix2 r i) = x (ix3 0 r i) := by
  pointwise [flat]

section
variable (x : FVec Ideal S1x512x1024 .bf16) (wq wk wv : FVec Ideal S1024x4096 .bf16) (wo : FVec Ideal S4096x1024 .bf16)
variable (X : Fin 512 → Fin 1024 → ℝ) (hx : ∀ r i, x (ix3 0 r i) = ((X r i : ℝ) : EReal))
variable (Q : Fin 1024 → Fin 4096 → ℝ) (hq : ∀ i l, wq (ix2 i l) = ((Q i l : ℝ) : EReal))
variable (K : Fin 1024 → Fin 4096 → ℝ) (hk : ∀ i l, wk (ix2 i l) = ((K i l : ℝ) : EReal))

/-- The score of row `r` against row `t` in head `h`. -/
def score (h : Fin 32) (r t : Fin 512) : ℝ :=
  ∑ d : Fin 128, (∑ i, (X r i * (Real.sqrt 128)⁻¹) * Q i (ReferenceIdeal.Plain.col h d)) * (∑ i, X t i * K i (ReferenceIdeal.Plain.col h d))

include hx hq hk

/-- The reference's scores. -/
theorem scores_real (h : Fin 32) (r t : Fin 512) : scores (project x wq) (project x wk) (ix4 0 h r t) = ((score X Q K h r t : ℝ) : EReal) := by
  rw [scores_at]
  simp only [project_at, hx, hq, hk]
  rw [score, ← Softmax.score_coe, Softmax.score_eq]

/-- A device's weights are the exponentials of the same scores. -/
theorem weigh_real (c : Dev nD) (h : Fin 8) (r t : Fin 512) :
    KernelIdeal.Talk.weigh (KernelIdeal.Talk.slab (KernelIdeal.Gen.k0_pay3 (F := Ideal) (flat x) (cols c wq)) h) (KernelIdeal.Talk.slab (KernelIdeal.Gen.k0_pay4 (F := Ideal) (flat x) (cols c wk)) h) (ix2 r t)
      = Ideal.exp ((score X Q K (headAt c h) r t : ℝ) : EReal) := by
  rw [weigh_at]
  simp only [slab_at, pay3_at, pay4_at, cols_at, flat_at, hx, hq, hk]
  rw [score, ← Softmax.score_coe]

/-- The reference's attention rows: the softmax of the scores. -/
theorem attended_real (h : Fin 32) (r : Fin 512) (e : Fin 128) :
    attended (scores (project x wq) (project x wk)) (project x wv) (ix4 0 r h e)
      = Ideal.div (∑ t : Fin 512, Ideal.exp ((score X Q K h r t : ℝ) : EReal) * project x wv (ix4 0 t h e)) (∑ t : Fin 512, Ideal.exp ((score X Q K h r t : ℝ) : EReal)) := by
  obtain ⟨a, ha⟩ := top_real (scores (project x wq) (project x wk)) (fun i => by
    have hi : i = ix4 (0 : Fin 1) (i 1) (i 2) (i 3) := (eq_ix4 i).trans (congrArg (fun z : Fin 1 => ix4 z (i 1) (i 2) (i 3)) (Subsingleton.elim _ _))
    rw [hi]
    exact ⟨_, scores_real x wq wk X hx Q hq K hk (i 1) (i 2) (i 3)⟩) h r
  rw [attended_at]
  simp only [weights_at, ha, scores_real x wq wk X hx Q hq K hk]
  exact Softmax.shift (n := 511) (score X Q K h r) (fun t => project x wv (ix4 0 t h e)) a

/-- A device's attention rows are the reference's, at its own heads. -/
theorem attn_real (c : Dev nD) (h : Fin 8) (r : Fin 512) (e : Fin 128) :
    attn (F := Ideal) (flat x) (cols c wq) (cols c wk) (cols c wv) (ix2 r (KernelIdeal.Talk.col h e))
      = attended (scores (project x wq) (project x wk)) (project x wv) (ix4 0 r (headAt c h) e) := by
  rw [attn_head, attended_real x wq wk wv X hx Q hq K hk, head, mix_at]
  simp only [weigh_real x wq wk X hx Q hq K hk, slab_at, pay5_at, project_at, cols_at, flat_at]

/-- The devices' contributions together are the reference's result. -/
theorem sum_eq (r : Fin 512) (j : Fin 1024) :
    ∑ d : Dev nD, share (fun c => attn (F := Ideal) (flat x) (cols c wq) (cols c wk) (cols c wv)) (fun c => KernelIdeal.Gen.k0_pay2 (F := Ideal) (rows c wo)) d r j
      = whole x wq wk wv wo (ix3 0 r j) := by
  rw [whole_at, Fin.sum_univ_tiles 4 8 rfl]
  refine Finset.sum_congr rfl fun d _ => ?_
  unfold share
  rw [Fin.sum_univ_tiles 8 128 rfl]
  refine Finset.sum_congr rfl fun h _ => Finset.sum_congr rfl fun e _ => ?_
  have hl : (⟨h.val * 128 + e.val, by omega⟩ : Fin 1024) = KernelIdeal.Talk.col h e := Fin.ext (by simp [Nat.mul_comm])
  rw [hl]
  refine congrArg₂ (fun a b : EReal => a * b) (attn_real x wq wk wv X hx Q hq K hk d h r e) ?_
  refine Eq.trans ?_ (rows_at d wo h e j)
  pointwise [KernelIdeal.Gen.k0_pay2]

end

end Cert.Equal

end
-- ==== Proof.Algebraic.lean ====
/-
  The value claim: on real numbers every device of the kernel returns the reference's result, where the input and the first
  two projections are finite; and the frames under the same precondition, which do not use it.
-/
module

public import proofs.«01_k».proof.Proof.Frames
public import proofs.«01_k».proof.Proof.Inputs
public import proofs.«01_k».proof.Proof.Equal

@[expose] public section

set_option maxRecDepth 16384

noncomputable section

namespace Cert.Value

open Idealize.ShloMosaic Idealize.ShloMosaic.TcCoe Idealize.SL.Sem
open Cert.KernelIdeal (S512x1024 S1x512x1024 S1024x1024)
open Cert.ReferenceIdeal (S1024x4096 S4096x1024)
open Cert.Equal (headAt cols rows)

/-- The precondition broadcasts one number over each array it reads. -/
theorem kernelFinite : Cert.Pre_finite_KernelIdeal.Facts := ⟨by decide, by decide⟩
theorem referenceFinite : Cert.Pre_finite_ReferenceIdeal.Facts := ⟨by decide, by decide⟩

theorem infinity : Ideal.ofBits .bf16 0x7F80#16 = ⊤ := by simp [Ideal.ofBits, Ideal.ieee]

/-- A number whose magnitude is below infinity is real. -/
theorem real_of_lt (x : EReal) (h : max x (-x) < ⊤) : ∃ a : ℝ, x = (a : EReal) := by
  refine ⟨x.toReal, (EReal.coe_toReal (fun e => ?_) fun e => ?_).symm⟩ <;> simp [e] at h

/-- What the precondition's comparison says of one entry. -/
theorem real_of_olt {s : Shape} (hb : Shape.BroadcastsInDim ⟨0, ![]⟩ s (![] : Fin 0 → Fin s.rank)) (x : FVec Ideal s .bf16)
    (h : cmpf .olt (Host.absf x) (broadcastInDim s ![] hb (constant (F := Ideal) ⟨0, ![]⟩ .bf16 0x7F80#16)) = fun _ => 1#1) (i : s.Idx) :
    ∃ a : ℝ, x i = (a : EReal) := by
  have hi : Ideal.cmp .olt (max (x i) (-(x i))) (Ideal.ofBits .bf16 0x7F80#16) = 1 := congrFun h i
  rw [Ideal.cmp_olt_eq_one, infinity] at hi
  exact real_of_lt _ hi

/-- A projection all of whose shards are real is real. -/
theorem real_of_cols (w : FVec Ideal S1024x4096 .bf16) (h : ∀ c i, ∃ a : ℝ, cols c w i = (a : EReal)) (i : Fin 1024) (l : Fin 4096) :
    ∃ a : ℝ, w (ix2 i l) = (a : EReal) := by
  have hl := l.isLt
  obtain ⟨a, ha⟩ := h ⟨l.val / 1024, by simp only [KernelIdeal.nD]; omega⟩ (ix2 i (KernelIdeal.Talk.col ⟨l.val % 1024 / 128, by omega⟩ ⟨l.val % 128, by omega⟩))
  refine ⟨a, Eq.trans ?_ ha⟩
  rw [Equal.cols_at]
  refine congrArg (fun l => w (ix2 i l)) (Fin.ext ?_)
  show l.val = 128 * (l.val / 1024 * 8 + l.val % 1024 / 128) + l.val % 128
  omega

section
variable (m : (ℓ : Loc Cert.KernelIdeal.nD Cert.KernelIdeal.τ Cert.KernelIdeal.sig) → Buf (Elt Ideal) ℓ)
variable (x : FVec Ideal S1x512x1024 .bf16) (wq wk wv : FVec Ideal S1024x4096 .bf16) (wo : FVec Ideal S4096x1024 .bf16)

/-- What a device returns, when each holds its shards of the reference's arrays. -/
theorem returned_at (h0 : ∀ d, KernelIdeal.Talk.arg m d Cert.KernelIdeal.main_arg0 = x) (h1 : ∀ d, KernelIdeal.Talk.arg m d Cert.KernelIdeal.main_arg1 = cols d wq)
    (h2 : ∀ d, KernelIdeal.Talk.arg m d Cert.KernelIdeal.main_arg2 = cols d wk) (h3 : ∀ d, KernelIdeal.Talk.arg m d Cert.KernelIdeal.main_arg3 = cols d wv)
    (h4 : ∀ d, KernelIdeal.Talk.arg m d Cert.KernelIdeal.main_arg4 = rows d wo)
    (hx : ∀ i, ∃ a : ℝ, x i = (a : EReal)) (hq : ∀ i l, ∃ a : ℝ, wq (ix2 i l) = (a : EReal)) (hk : ∀ i l, ∃ a : ℝ, wk (ix2 i l) = (a : EReal))
    (c : Dev Cert.KernelIdeal.nD) (r : Fin 512) (j : Fin 1024) :
    @Eq EReal (KernelIdeal.Talk.returned m c (ix3 0 r j)) (ReferenceIdeal.Plain.whole x wq wk wv wo (ix3 0 r j)) := by
  choose X hX using fun (r : Fin 512) (i : Fin 1024) => hx (ix3 0 r i)
  choose Q hQ using hq
  choose K hK using hk
  have hr : KernelIdeal.Talk.rowsOf m = fun d => KernelIdeal.Talk.attn (F := Ideal) (Equal.flat x) (cols d wq) (cols d wk) (cols d wv) :=
    funext fun d => by rw [KernelIdeal.Talk.rowsOf_eq, h0, h1, h2, h3]
  have hp : KernelIdeal.Talk.projOf m = fun d => KernelIdeal.Gen.k0_pay2 (F := Ideal) (rows d wo) :=
    funext fun d => by rw [KernelIdeal.Talk.projOf_eq, h4]
  have e : KernelIdeal.Talk.returned m c (ix3 0 r j) = KernelIdeal.Talk.resultOf m c (ix2 r j) := by
    rw [KernelIdeal.Talk.returned_eq]
    generalize KernelIdeal.Talk.resultOf m c = z
    pointwise []
  refine e.trans ?_
  refine Eq.trans ?_ (Equal.sum_eq x wq wk wv wo X hX Q hQ K hK r j)
  rw [← hr, ← hp]
  exact KernelIdeal.Talk.result_at (KernelIdeal.Talk.rowsOf m) (KernelIdeal.Talk.projOf m) c r j

/-- The same, of the whole array. -/
theorem returned_whole (h0 : ∀ d, KernelIdeal.Talk.arg m d Cert.KernelIdeal.main_arg0 = x) (h1 : ∀ d, KernelIdeal.Talk.arg m d Cert.KernelIdeal.main_arg1 = cols d wq)
    (h2 : ∀ d, KernelIdeal.Talk.arg m d Cert.KernelIdeal.main_arg2 = cols d wk) (h3 : ∀ d, KernelIdeal.Talk.arg m d Cert.KernelIdeal.main_arg3 = cols d wv)
    (h4 : ∀ d, KernelIdeal.Talk.arg m d Cert.KernelIdeal.main_arg4 = rows d wo)
    (hx : ∀ i, ∃ a : ℝ, x i = (a : EReal)) (hq : ∀ i l, ∃ a : ℝ, wq (ix2 i l) = (a : EReal)) (hk : ∀ i l, ∃ a : ℝ, wk (ix2 i l) = (a : EReal))
    (c : Dev Cert.KernelIdeal.nD) : KernelIdeal.Talk.returned m c = ReferenceIdeal.Plain.whole x wq wk wv wo := by
  funext i
  have hi : i = ix3 (0 : Fin 1) (i 1) (i 2) := (eq_ix3 i).trans (congrArg (fun z : Fin 1 => ix3 z (i 1) (i 2)) (Subsingleton.elim _ _))
  rw [hi]
  exact returned_at m x wq wk wv wo h0 h1 h2 h3 h4 hx hq hk c (i 1) (i 2)

end

/-- Every device of the kernel returns the reference's result. -/
theorem algebraic : Cert.algebraic_KernelIdeal_ReferenceIdeal_pre_finite_KernelIdeal (hPre_finite_KernelIdeal := kernelFinite) := by
  intro m g m' g' hpre hm
  have hx := real_of_olt _ _ (hpre 0).1
  rw [(hm 0).1] at hx
  have hq := real_of_cols _ fun c i => by
    have h := real_of_olt _ _ (hpre c).2.1 i
    rw [(hm c).2.1] at h
    exact h
  have hk := real_of_cols _ fun c i => by
    have h := real_of_olt _ _ (hpre c).2.2 i
    rw [(hm c).2.2.1] at h
    exact h
  refine ⟨ReferenceIdeal.Value.res_main_v40 m' 0, ?_, ?_⟩
  · refine (θ_run Cert.KernelIdeal.defs _ _).mono (fun r h c => ⟨((h.1 c).2).trans ?_, (h.1 c).1⟩) (Cert.KernelIdeal.Talk.run_main (F := Ideal) m g)
    rw [ReferenceIdeal.Plain.result_eq]
    exact returned_whole m _ _ _ _ _ (fun d => (hm d).1) (fun d => (hm d).2.1) (fun d => (hm d).2.2.1) (fun d => (hm d).2.2.2.1) (fun d => (hm d).2.2.2.2) hx hq hk c
  · exact (θ_run Cert.ReferenceIdeal.defs _ _).mono (fun r h => h 0) (Cert.ReferenceIdeal.Value.run (F := Ideal) m' g')

/-- The frames under the precondition. -/
theorem kernelIdeal : Cert.quiescent_KernelIdeal_pre_finite_KernelIdeal (hPre_finite_KernelIdeal := kernelFinite) :=
  fun m ρ _ => Cert.Frames.kernelIdeal m ρ trivial
theorem referenceIdeal : Cert.quiescent_ReferenceIdeal_pre_finite_ReferenceIdeal (hPre_finite_ReferenceIdeal := referenceFinite) :=
  fun m ρ _ => Cert.Frames.referenceIdeal m ρ trivial

end Cert.Value

end
-- ==== Proof.lean ====
/-
  The proof of the certificate's claim, each part from its own module.
-/
module

public import proofs.«01_k».proof.Defs
public import proofs.«01_k».proof.Proof.Frames
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Value.kernelFinite, Cert.Value.referenceFinite,
    Cert.Frames.kernel, Cert.Frames.kernelIdeal, Cert.Value.kernelIdeal, Cert.Frames.referenceIdeal, Cert.Value.referenceIdeal,
    Cert.Frames.preserves, Cert.Value.algebraic⟩

end Cert.Proof

end
